-- ==== Defs.lean ====
def Pre_Kernel [hPre_in_tables : Cert.Pre_in_tables.Facts] (m : (ℓ : Loc Cert.Kernel.nD Cert.Kernel.τ Cert.Kernel.sig) → Buf (Elt Bits) ℓ) : Prop :=
  ∀ c : Dev Cert.Kernel.nD,
    (Cert.Pre_in_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_tables : Cert.Pre_in_tables.Facts] (m : (ℓ : Loc Cert.KernelIdeal.nD Cert.KernelIdeal.τ Cert.KernelIdeal.sig) → Buf (Elt Ideal) ℓ) : Prop :=
  ∀ c : Dev Cert.KernelIdeal.nD,
    (Cert.Pre_in_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_tables [hPre_in_tables : Cert.Pre_in_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_tables : Cert.Pre_in_tables.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_tables : Cert.Pre_in_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_tables [hReferenceIdeal : Cert.ReferenceIdeal.Facts] [hPre_in_tables : Cert.Pre_in_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_tables : Cert.Pre_in_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_tables : Cert.Pre_in_tables.Facts),
    quiescent_Kernel (hKernel := hKernel) (hPre_in_tables := hPre_in_tables)
    ∧ quiescent_KernelIdeal (hKernelIdeal := hKernelIdeal) (hPre_in_tables := hPre_in_tables)
    ∧ quiescent_ReferenceIdeal (hReferenceIdeal := hReferenceIdeal)
    ∧ quiescent_ReferenceIdeal_pre_in_tables (hReferenceIdeal := hReferenceIdeal) (hPre_in_tables := hPre_in_tables)
    ∧ preserves_Kernel_KernelIdeal
    ∧ algebraic_KernelIdeal_ReferenceIdeal (hKernelIdeal := hKernelIdeal) (hReferenceIdeal := hReferenceIdeal) (hPre_in_tables := hPre_in_tables)
-- ==== Pre_in_tables.lean ====
abbrev S16384 : Shape := ⟨1, ![16384]⟩
abbrev S1000000x16 : Shape := ⟨2, ![1000000, 16]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : IVec S16384 32) (main_arg1 : IVec S16384 32) (main_arg2 : FVec F S1000000x16 .f32) (main_arg3 : FVec F S1000000x16 .f32) : IVec S16384 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 1000000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 32 := constantI S_ 32 0#32
  let main_v5 : IVec S16384 32 := broadcastInDim S16384 ![] bcast_S_S16384 main_c_1
  let main_v6 : IVec S16384 1 := cmpi .sge main_arg1 main_v5
  let main_v7 : IVec S16384 1 := andi main_v4 main_v6
  let main_c_2 : IVec S_ 32 := constantI S_ 32 1000000#32
  let main_v8 : IVec S16384 32 := broadcastInDim S16384 ![] bcast_S_S16384 main_c_2
  let main_v9 : IVec S16384 1 := cmpi .slt main_arg1 main_v8
  let main_v10 : IVec S16384 1 := andi main_v7 main_v9
  main_v10
-- ==== Kernel.lean ====
abbrev S16384 : Shape := ⟨1, ![16384]⟩
abbrev S1000000x16 : Shape := ⟨2, ![1000000, 16]⟩
abbrev S125000x128 : Shape := ⟨2, ![125000, 128]⟩
abbrev S512 : Shape := ⟨1, ![512]⟩
abbrev S256x128 : Shape := ⟨2, ![256, 128]⟩
abbrev S_ : Shape := ⟨0, ![]⟩
abbrev S16 : Shape := ⟨1, ![16]⟩
abbrev S256 : Shape := ⟨1, ![256]⟩

abbrev nBuf : Table → Nat
  | .hbm => 7
  | .local .scVector .vmem => 7
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S1000000x16, .f32⟩
  | .hbm, ⟨3, _⟩ => ⟨S1000000x16, .f32⟩
  | .hbm, ⟨4, _⟩ => ⟨S125000x128, .f32⟩
  | .hbm, ⟨5, _⟩ => ⟨S125000x128, .f32⟩
  | .hbm, ⟨6, _⟩ => ⟨S16384, .f32⟩
  | .local .scVector .vmem, ⟨0, _⟩ => ⟨S512, .i32⟩
  | .local .scVector .vmem, ⟨1, _⟩ => ⟨S512, .i32⟩
  | .local .scVector .vmem, ⟨2, _⟩ => ⟨S512, .i32⟩
  | .local .scVector .vmem, ⟨3, _⟩ => ⟨S512, .i32⟩
  | .local .scVector .vmem, ⟨4, _⟩ => ⟨S256x128, .f32⟩
  | .local .scVector .vmem, ⟨5, _⟩ => ⟨S256x128, .f32⟩
  | .local .scVector .vmem, ⟨6, _⟩ => ⟨S512, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_arg0_scv : Ref sig .scVector := ⟨.hbm, 0, rfl⟩
abbrev main_arg1_scv : Ref sig .scVector := ⟨.hbm, 1, rfl⟩
abbrev main_v0_scv : Ref sig .scVector := ⟨.hbm, 4, rfl⟩
abbrev main_v1_scv : Ref sig .scVector := ⟨.hbm, 5, rfl⟩
abbrev main_v2_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32_0 : BitVec 32 := 0#32
  let c32_i32 : BitVec 32 := 32#32
  let v4 : BitVec 32 := Scalar.addi c0_i32_0 c32_i32
  let c1_i32 : BitVec 32 := 1#32
  ⟨c0_i32_0, v4, c1_i32⟩
def k0_off2 (k0_t1 : Fin k0_t1_loop.trips) : Fin 1 → Nat :=
  let c0_i32_0 : BitVec 32 := 0#32
  let c1_i32 : BitVec 32 := 1#32
  let arg16 : BitVec 32 := Scf.iv c0_i32_0 c1_i32 k0_t1
  let c16_i32 : BitVec 32 := 16#32
  let v6 : BitVec 32 := Scalar.muli arg16 c16_i32
  let v7 : Index := Scalar.indexCast v6
  ![v7.toNat]
@[reducible] def k0_t2_loop : Scf.Loop 32 :=
  let c0_i32_3 : BitVec 32 := 0#32
  let c2_i32_4 : BitVec 32 := 2#32
  let v5 : BitVec 32 := Scalar.addi c0_i32_3 c2_i32_4
  let c1_i32_5 : BitVec 32 := 1#32
  ⟨c0_i32_3, v5, c1_i32_5⟩
def k0_off3 (k0_t2 : Fin k0_t2_loop.trips) : Fin 1 → Nat :=
  let c0_i32_3 : BitVec 32 := 0#32
  let c1_i32_5 : BitVec 32 := 1#32
  let arg16 : BitVec 32 := Scf.iv c0_i32_3 c1_i32_5 k0_t2
  let c256_i32 : BitVec 32 := 256#32
  let v6 : BitVec 32 := Scalar.muli arg16 c256_i32
  ![v6.toNat]
@[reducible] def k0_t3_loop : Scf.Loop 32 :=
  let c0_i32_16 : BitVec 32 := 0#32
  let c16_i32 : BitVec 32 := 16#32
  let v15 : BitVec 32 := Scalar.addi c0_i32_16 c16_i32
  let c1_i32_17 : BitVec 32 := 1#32
  ⟨c0_i32_16, v15, c1_i32_17⟩
def k0_off4 (k0_t2 : Fin k0_t2_loop.trips) (k0_t3 : Fin k0_t3_loop.trips) : Fin 1 → Nat :=
  let c0_i32_3 : BitVec 32 := 0#32
  let c1_i32_5 : BitVec 32 := 1#32
  let arg16 : BitVec 32 := Scf.iv c0_i32_3 c1_i32_5 k0_t2
  let c256_i32 : BitVec 32 := 256#32
  let v6 : BitVec 32 := Scalar.muli arg16 c256_i32
  let c0_i32_16 : BitVec 32 := 0#32
  let c1_i32_17 : BitVec 32 := 1#32
  let arg17 : BitVec 32 := Scf.iv c0_i32_16 c1_i32_17 k0_t3
  let c16_i32_20 : BitVec 32 := 16#32
  let v19 : BitVec 32 := Scalar.muli arg17 c16_i32_20
  let v20 : BitVec 32 := Scalar.addi v6 v19
  let v21 : Index := Scalar.indexCast v20
  ![v21.toNat]

def k0_chk1 (v18 : IVec S16 32) (v35 : IVec S16 32) : Prop :=
  (∀ a x, ((![v18, v35] : Fin 2 → IVec S16 32) a x).toNat < S256x128.size a)
theorem k0_idx1_inb : ∀ (v18 : IVec S16 32) (v35 : IVec S16 32) (k0_hw1 : k0_chk1 v18 v35), ∀ a x, ((![v18, v35] : Fin 2 → IVec S16 32) a x).toNat < S256x128.size a := fun v18 v35 k0_hw1 => k0_hw1

def k0_chk2 (v18 : IVec S16 32) (v38 : IVec S16 32) : Prop :=
  (∀ a x, ((![v18, v38] : Fin 2 → IVec S16 32) a x).toNat < S256x128.size a)
theorem k0_idx2_inb : ∀ (v18 : IVec S16 32) (v38 : IVec S16 32) (k0_hw2 : k0_chk2 v18 v38), ∀ a x, ((![v18, v38] : Fin 2 → IVec S16 32) a x).toNat < S256x128.size a := fun v18 v38 k0_hw2 => k0_hw2

def k0_chk3 (v18 : IVec S16 32) (v43 : IVec S16 32) : Prop :=
  (∀ a x, ((![v18, v43] : Fin 2 → IVec S16 32) a x).toNat < S256x128.size a)
theorem k0_idx3_inb : ∀ (v18 : IVec S16 32) (v43 : IVec S16 32) (k0_hw3 : k0_chk3 v18 v43), ∀ a x, ((![v18, v43] : Fin 2 → IVec S16 32) a x).toNat < S256x128.size a := fun v18 v43 k0_hw3 => k0_hw3

def k0_chk4 (v18 : IVec S16 32) (v46 : IVec S16 32) : Prop :=
  (∀ a x, ((![v18, v46] : Fin 2 → IVec S16 32) a x).toNat < S256x128.size a)
theorem k0_idx4_inb : ∀ (v18 : IVec S16 32) (v46 : IVec S16 32) (k0_hw4 : k0_chk4 v18 v46), ∀ a x, ((![v18, v46] : Fin 2 → IVec S16 32) a x).toNat < S256x128.size a := fun v18 v46 k0_hw4 => k0_hw4

def k0_chk5 (v18 : IVec S16 32) (v51 : IVec S16 32) : Prop :=
  (∀ a x, ((![v18, v51] : Fin 2 → IVec S16 32) a x).toNat < S256x128.size a)
theorem k0_idx5_inb : ∀ (v18 : IVec S16 32) (v51 : IVec S16 32) (k0_hw5 : k0_chk5 v18 v51), ∀ a x, ((![v18, v51] : Fin 2 → IVec S16 32) a x).toNat < S256x128.size a := fun v18 v51 k0_hw5 => k0_hw5

def k0_chk6 (v18 : IVec S16 32) (v54 : IVec S16 32) : Prop :=
  (∀ a x, ((![v18, v54] : Fin 2 → IVec S16 32) a x).toNat < S256x128.size a)
theorem k0_idx6_inb : ∀ (v18 : IVec S16 32) (v54 : IVec S16 32) (k0_hw6 : k0_chk6 v18 v54), ∀ a x, ((![v18, v54] : Fin 2 → IVec S16 32) a x).toNat < S256x128.size a := fun v18 v54 k0_hw6 => k0_hw6

def k0_chk7 (v18 : IVec S16 32) (v59 : IVec S16 32) : Prop :=
  (∀ a x, ((![v18, v59] : Fin 2 → IVec S16 32) a x).toNat < S256x128.size a)
theorem k0_idx7_inb : ∀ (v18 : IVec S16 32) (v59 : IVec S16 32) (k0_hw7 : k0_chk7 v18 v59), ∀ a x, ((![v18, v59] : Fin 2 → IVec S16 32) a x).toNat < S256x128.size a := fun v18 v59 k0_hw7 => k0_hw7

def k0_chk8 (v18 : IVec S16 32) (v62 : IVec S16 32) : Prop :=
  (∀ a x, ((![v18, v62] : Fin 2 → IVec S16 32) a x).toNat < S256x128.size a)
theorem k0_idx8_inb : ∀ (v18 : IVec S16 32) (v62 : IVec S16 32) (k0_hw8 : k0_chk8 v18 v62), ∀ a x, ((![v18, v62] : Fin 2 → IVec S16 32) a x).toNat < S256x128.size a := fun v18 v62 k0_hw8 => k0_hw8

def k0_chk9 (v18 : IVec S16 32) (v67 : IVec S16 32) : Prop :=
  (∀ a x, ((![v18, v67] : Fin 2 → IVec S16 32) a x).toNat < S256x128.size a)
theorem k0_idx9_inb : ∀ (v18 : IVec S16 32) (v67 : IVec S16 32) (k0_hw9 : k0_chk9 v18 v67), ∀ a x, ((![v18, v67] : Fin 2 → IVec S16 32) a x).toNat < S256x128.size a := fun v18 v67 k0_hw9 => k0_hw9

def k0_chk10 (v18 : IVec S16 32) (v70 : IVec S16 32) : Prop :=
  (∀ a x, ((![v18, v70] : Fin 2 → IVec S16 32) a x).toNat < S256x128.size a)
theorem k0_idx10_inb : ∀ (v18 : IVec S16 32) (v70 : IVec S16 32) (k0_hw10 : k0_chk10 v18 v70), ∀ a x, ((![v18, v70] : Fin 2 → IVec S16 32) a x).toNat < S256x128.size a := fun v18 v70 k0_hw10 => k0_hw10

def k0_chk11 (v18 : IVec S16 32) (v75 : IVec S16 32) : Prop :=
  (∀ a x, ((![v18, v75] : Fin 2 → IVec S16 32) a x).toNat < S256x128.size a)
theorem k0_idx11_inb : ∀ (v18 : IVec S16 32) (v75 : IVec S16 32) (k0_hw11 : k0_chk11 v18 v75), ∀ a x, ((![v18, v75] : Fin 2 → IVec S16 32) a x).toNat < S256x128.size a := fun v18 v75 k0_hw11 => k0_hw11

def k0_chk12 (v18 : IVec S16 32) (v78 : IVec S16 32) : Prop :=
  (∀ a x, ((![v18, v78] : Fin 2 → IVec S16 32) a x).toNat < S256x128.size a)
theorem k0_idx12_inb : ∀ (v18 : IVec S16 32) (v78 : IVec S16 32) (k0_hw12 : k0_chk12 v18 v78), ∀ a x, ((![v18, v78] : Fin 2 → IVec S16 32) a x).toNat < S256x128.size a := fun v18 v78 k0_hw12 => k0_hw12

def k0_chk13 (v18 : IVec S16 32) (v83 : IVec S16 32) : Prop :=
  (∀ a x, ((![v18, v83] : Fin 2 → IVec S16 32) a x).toNat < S256x128.size a)
theorem k0_idx13_inb : ∀ (v18 : IVec S16 32) (v83 : IVec S16 32) (k0_hw13 : k0_chk13 v18 v83), ∀ a x, ((![v18, v83] : Fin 2 → IVec S16 32) a x).toNat < S256x128.size a := fun v18 v83 k0_hw13 => k0_hw13

def k0_chk14 (v18 : IVec S16 32) (v86 : IVec S16 32) : Prop :=
  (∀ a x, ((![v18, v86] : Fin 2 → IVec S16 32) a x).toNat < S256x128.size a)
theorem k0_idx14_inb : ∀ (v18 : IVec S16 32) (v86 : IVec S16 32) (k0_hw14 : k0_chk14 v18 v86), ∀ a x, ((![v18, v86] : Fin 2 → IVec S16 32) a x).toNat < S256x128.size a := fun v18 v86 k0_hw14 => k0_hw14

def k0_chk15 (v18 : IVec S16 32) (v91 : IVec S16 32) : Prop :=
  (∀ a x, ((![v18, v91] : Fin 2 → IVec S16 32) a x).toNat < S256x128.size a)
theorem k0_idx15_inb : ∀ (v18 : IVec S16 32) (v91 : IVec S16 32) (k0_hw15 : k0_chk15 v18 v91), ∀ a x, ((![v18, v91] : Fin 2 → IVec S16 32) a x).toNat < S256x128.size a := fun v18 v91 k0_hw15 => k0_hw15

def k0_chk16 (v18 : IVec S16 32) (v94 : IVec S16 32) : Prop :=
  (∀ a x, ((![v18, v94] : Fin 2 → IVec S16 32) a x).toNat < S256x128.size a)
theorem k0_idx16_inb : ∀ (v18 : IVec S16 32) (v94 : IVec S16 32) (k0_hw16 : k0_chk16 v18 v94), ∀ a x, ((![v18, v94] : Fin 2 → IVec S16 32) a x).toNat < S256x128.size a := fun v18 v94 k0_hw16 => k0_hw16

def k0_chk17 (v18 : IVec S16 32) (v99 : IVec S16 32) : Prop :=
  (∀ a x, ((![v18, v99] : Fin 2 → IVec S16 32) a x).toNat < S256x128.size a)
theorem k0_idx17_inb : ∀ (v18 : IVec S16 32) (v99 : IVec S16 32) (k0_hw17 : k0_chk17 v18 v99), ∀ a x, ((![v18, v99] : Fin 2 → IVec S16 32) a x).toNat < S256x128.size a := fun v18 v99 k0_hw17 => k0_hw17

def k0_chk18 (v18 : IVec S16 32) (v102 : IVec S16 32) : Prop :=
  (∀ a x, ((![v18, v102] : Fin 2 → IVec S16 32) a x).toNat < S256x128.size a)
theorem k0_idx18_inb : ∀ (v18 : IVec S16 32) (v102 : IVec S16 32) (k0_hw18 : k0_chk18 v18 v102), ∀ a x, ((![v18, v102] : Fin 2 → IVec S16 32) a x).toNat < S256x128.size a := fun v18 v102 k0_hw18 => k0_hw18

def k0_chk19 (v18 : IVec S16 32) (v107 : IVec S16 32) : Prop :=
  (∀ a x, ((![v18, v107] : Fin 2 → IVec S16 32) a x).toNat < S256x128.size a)
theorem k0_idx19_inb : ∀ (v18 : IVec S16 32) (v107 : IVec S16 32) (k0_hw19 : k0_chk19 v18 v107), ∀ a x, ((![v18, v107] : Fin 2 → IVec S16 32) a x).toNat < S256x128.size a := fun v18 v107 k0_hw19 => k0_hw19

def k0_chk20 (v18 : IVec S16 32) (v110 : IVec S16 32) : Prop :=
  (∀ a x, ((![v18, v110] : Fin 2 → IVec S16 32) a x).toNat < S256x128.size a)
theorem k0_idx20_inb : ∀ (v18 : IVec S16 32) (v110 : IVec S16 32) (k0_hw20 : k0_chk20 v18 v110), ∀ a x, ((![v18, v110] : Fin 2 → IVec S16 32) a x).toNat < S256x128.size a := fun v18 v110 k0_hw20 => k0_hw20

def k0_chk21 (v18 : IVec S16 32) (v115 : IVec S16 32) : Prop :=
  (∀ a x, ((![v18, v115] : Fin 2 → IVec S16 32) a x).toNat < S256x128.size a)
theorem k0_idx21_inb : ∀ (v18 : IVec S16 32) (v115 : IVec S16 32) (k0_hw21 : k0_chk21 v18 v115), ∀ a x, ((![v18, v115] : Fin 2 → IVec S16 32) a x).toNat < S256x128.size a := fun v18 v115 k0_hw21 => k0_hw21

def k0_chk22 (v18 : IVec S16 32) (v118 : IVec S16 32) : Prop :=
  (∀ a x, ((![v18, v118] : Fin 2 → IVec S16 32) a x).toNat < S256x128.size a)
theorem k0_idx22_inb : ∀ (v18 : IVec S16 32) (v118 : IVec S16 32) (k0_hw22 : k0_chk22 v18 v118), ∀ a x, ((![v18, v118] : Fin 2 → IVec S16 32) a x).toNat < S256x128.size a := fun v18 v118 k0_hw22 => k0_hw22

def k0_chk23 (v18 : IVec S16 32) (v123 : IVec S16 32) : Prop :=
  (∀ a x, ((![v18, v123] : Fin 2 → IVec S16 32) a x).toNat < S256x128.size a)
theorem k0_idx23_inb : ∀ (v18 : IVec S16 32) (v123 : IVec S16 32) (k0_hw23 : k0_chk23 v18 v123), ∀ a x, ((![v18, v123] : Fin 2 → IVec S16 32) a x).toNat < S256x128.size a := fun v18 v123 k0_hw23 => k0_hw23

def k0_chk24 (v18 : IVec S16 32) (v126 : IVec S16 32) : Prop :=
  (∀ a x, ((![v18, v126] : Fin 2 → IVec S16 32) a x).toNat < S256x128.size a)
theorem k0_idx24_inb : ∀ (v18 : IVec S16 32) (v126 : IVec S16 32) (k0_hw24 : k0_chk24 v18 v126), ∀ a x, ((![v18, v126] : Fin 2 → IVec S16 32) a x).toNat < S256x128.size a := fun v18 v126 k0_hw24 => k0_hw24

def k0_chk25 (v18 : IVec S16 32) (v131 : IVec S16 32) : Prop :=
  (∀ a x, ((![v18, v131] : Fin 2 → IVec S16 32) a x).toNat < S256x128.size a)
theorem k0_idx25_inb : ∀ (v18 : IVec S16 32) (v131 : IVec S16 32) (k0_hw25 : k0_chk25 v18 v131), ∀ a x, ((![v18, v131] : Fin 2 → IVec S16 32) a x).toNat < S256x128.size a := fun v18 v131 k0_hw25 => k0_hw25

def k0_chk26 (v18 : IVec S16 32) (v134 : IVec S16 32) : Prop :=
  (∀ a x, ((![v18, v134] : Fin 2 → IVec S16 32) a x).toNat < S256x128.size a)
theorem k0_idx26_inb : ∀ (v18 : IVec S16 32) (v134 : IVec S16 32) (k0_hw26 : k0_chk26 v18 v134), ∀ a x, ((![v18, v134] : Fin 2 → IVec S16 32) a x).toNat < S256x128.size a := fun v18 v134 k0_hw26 => k0_hw26

def k0_chk27 (v18 : IVec S16 32) (v139 : IVec S16 32) : Prop :=
  (∀ a x, ((![v18, v139] : Fin 2 → IVec S16 32) a x).toNat < S256x128.size a)
theorem k0_idx27_inb : ∀ (v18 : IVec S16 32) (v139 : IVec S16 32) (k0_hw27 : k0_chk27 v18 v139), ∀ a x, ((![v18, v139] : Fin 2 → IVec S16 32) a x).toNat < S256x128.size a := fun v18 v139 k0_hw27 => k0_hw27

def k0_chk28 (v18 : IVec S16 32) (v142 : IVec S16 32) : Prop :=
  (∀ a x, ((![v18, v142] : Fin 2 → IVec S16 32) a x).toNat < S256x128.size a)
theorem k0_idx28_inb : ∀ (v18 : IVec S16 32) (v142 : IVec S16 32) (k0_hw28 : k0_chk28 v18 v142), ∀ a x, ((![v18, v142] : Fin 2 → IVec S16 32) a x).toNat < S256x128.size a := fun v18 v142 k0_hw28 => k0_hw28

def k0_chk29 (v18 : IVec S16 32) (v147 : IVec S16 32) : Prop :=
  (∀ a x, ((![v18, v147] : Fin 2 → IVec S16 32) a x).toNat < S256x128.size a)
theorem k0_idx29_inb : ∀ (v18 : IVec S16 32) (v147 : IVec S16 32) (k0_hw29 : k0_chk29 v18 v147), ∀ a x, ((![v18, v147] : Fin 2 → IVec S16 32) a x).toNat < S256x128.size a := fun v18 v147 k0_hw29 => k0_hw29

def k0_chk30 (v18 : IVec S16 32) (v150 : IVec S16 32) : Prop :=
  (∀ a x, ((![v18, v150] : Fin 2 → IVec S16 32) a x).toNat < S256x128.size a)
theorem k0_idx30_inb : ∀ (v18 : IVec S16 32) (v150 : IVec S16 32) (k0_hw30 : k0_chk30 v18 v150), ∀ a x, ((![v18, v150] : Fin 2 → IVec S16 32) a x).toNat < S256x128.size a := fun v18 v150 k0_hw30 => k0_hw30

def k0_chk31 (v18 : IVec S16 32) (v155 : IVec S16 32) : Prop :=
  (∀ a x, ((![v18, v155] : Fin 2 → IVec S16 32) a x).toNat < S256x128.size a)
theorem k0_idx31_inb : ∀ (v18 : IVec S16 32) (v155 : IVec S16 32) (k0_hw31 : k0_chk31 v18 v155), ∀ a x, ((![v18, v155] : Fin 2 → IVec S16 32) a x).toNat < S256x128.size a := fun v18 v155 k0_hw31 => k0_hw31

def k0_chk32 (v18 : IVec S16 32) (v158 : IVec S16 32) : Prop :=
  (∀ a x, ((![v18, v158] : Fin 2 → IVec S16 32) a x).toNat < S256x128.size a)
theorem k0_idx32_inb : ∀ (v18 : IVec S16 32) (v158 : IVec S16 32) (k0_hw32 : k0_chk32 v18 v158), ∀ a x, ((![v18, v158] : Fin 2 → IVec S16 32) a x).toNat < S256x128.size a := fun v18 v158 k0_hw32 => k0_hw32
def k0_off5 (k0_t2 : Fin k0_t2_loop.trips) (k0_t3 : Fin k0_t3_loop.trips) : Fin 1 → Nat :=
  let c0_i32_3 : BitVec 32 := 0#32
  let c1_i32_5 : BitVec 32 := 1#32
  let arg16 : BitVec 32 := Scf.iv c0_i32_3 c1_i32_5 k0_t2
  let c256_i32 : BitVec 32 := 256#32
  let v6 : BitVec 32 := Scalar.muli arg16 c256_i32
  let c0_i32_16 : BitVec 32 := 0#32
  let c1_i32_17 : BitVec 32 := 1#32
  let arg17 : BitVec 32 := Scf.iv c0_i32_16 c1_i32_17 k0_t3
  let c16_i32_20 : BitVec 32 := 16#32
  let v19 : BitVec 32 := Scalar.muli arg17 c16_i32_20
  let v20 : BitVec 32 := Scalar.addi v6 v19
  let v162 : Index := Scalar.indexCast v20
  ![v162.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S1000000x16 : Shape := ⟨2, ![1000000, 16]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x16 : Shape := ⟨2, ![16384, 16]⟩

abbrev nBuf : Space → Nat
  | .hbm => 55
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S1000000x16, .f32⟩
  | .hbm, ⟨3, _⟩ => ⟨S1000000x16, .f32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S1, .i32⟩
  | .hbm, ⟨13, _⟩ => ⟨S_, .i32⟩
  | .hbm, ⟨14, _⟩ => ⟨S16384x1, .i32⟩
  | .hbm, ⟨15, _⟩ => ⟨S16384x1, .i1⟩
  | .hbm, ⟨16, _⟩ => ⟨S1x1, .i32⟩
  | .hbm, ⟨17, _⟩ => ⟨S16384x1, .i32⟩
  | .hbm, ⟨18, _⟩ => ⟨S16384x1, .i1⟩
  | .hbm, ⟨19, _⟩ => ⟨S16384x1, .i1⟩
  | .hbm, ⟨20, _⟩ => ⟨S_, .i1⟩
  | .hbm, ⟨21, _⟩ => ⟨S16384, .i1⟩
  | .hbm, ⟨22, _⟩ => ⟨S16384x16, .f32⟩
  | .hbm, ⟨23, _⟩ => ⟨S16384x16, .i1⟩
  | .hbm, ⟨24, _⟩ => ⟨S_, .f32⟩
  | .hbm, ⟨25, _⟩ => ⟨S16384x16, .f32⟩
  | .hbm, ⟨26, _⟩ => ⟨S16384x16, .f32⟩
  | .hbm, ⟨27, _⟩ => ⟨S_, .i32⟩
  | .hbm, ⟨28, _⟩ => ⟨S16384, .i32⟩
  | .hbm, ⟨29, _⟩ => ⟨S16384, .i1⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S16384, .i32⟩
  | .hbm, ⟨34, _⟩ => ⟨S16384x1, .i32⟩
  | .hbm, ⟨35, _⟩ => ⟨S1, .i32⟩
  | .hbm, ⟨36, _⟩ => ⟨S_, .i32⟩
  | .hbm, ⟨37, _⟩ => ⟨S16384x1, .i32⟩
  | .hbm, ⟨38, _⟩ => ⟨S16384x1, .i1⟩
  | .hbm, ⟨39, _⟩ => ⟨S1x1, .i32⟩
  | .hbm, ⟨40, _⟩ => ⟨S16384x1, .i32⟩
  | .hbm, ⟨41, _⟩ => ⟨S16384x1, .i1⟩
  | .hbm, ⟨42, _⟩ => ⟨S16384x1, .i1⟩
  | .hbm, ⟨43, _⟩ => ⟨S_, .i1⟩
  | .hbm, ⟨44, _⟩ => ⟨S16384, .i1⟩
  | .hbm, ⟨45, _⟩ => ⟨S16384x16, .f32⟩
  | .hbm, ⟨46, _⟩ => ⟨S16384x16, .i1⟩
  | .hbm, ⟨47, _⟩ => ⟨S_, .f32⟩
  | .hbm, ⟨48, _⟩ => ⟨S16384x16, .f32⟩
  | .hbm, ⟨49, _⟩ => ⟨S16384x16, .f32⟩
  | .hbm, ⟨50, _⟩ => ⟨S16384x16, .f32⟩
  | .hbm, ⟨51, _⟩ => ⟨S_, .f32⟩
  | .hbm, ⟨52, _⟩ => ⟨S16384, .f32⟩
  | .hbm, ⟨53, _⟩ => ⟨S16384x1, .f32⟩
  | .hbm, ⟨54, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_v2 : Ref sig .tc := ⟨.hbm, 50, rfl⟩
abbrev main_cst : Ref sig .tc := ⟨.hbm, 51, rfl⟩
abbrev main_v3 : Ref sig .tc := ⟨.hbm, 52, rfl⟩
abbrev main_v4 : Ref sig .tc := ⟨.hbm, 53, rfl⟩
abbrev main_v5 : Ref sig .tc := ⟨.hbm, 54, rfl⟩

abbrev nD : Nat := 1
abbrev τ : Topo := Topo.v7x

variable {F : FTy → Type} [FloatOps F]
-- ==== Proof.Value.lean ====
/-
  What the kernel leaves in its result, at any float values, and the arithmetic of the index words it is read through.

  The kernel sees each table `[1000000, 16]` as `[125000, 128]`: row `w` of the table is the sixteen columns from
  `(w % 8) * 16` of row `w / 8` of the view. `cell w f` is the view's index of column `f` of the table's row `w`, as the
  kernel computes it from the word `w`; `dotAt` is the sum of the sixteen products, from the left, starting at zero.
-/
module

public import proofs.«01_k».proof.Defs
public import proofs.«01_k».proof.Proof.Gen.KernelIdeal
public import proofs.«01_k».proof.Proof.Gen.KernelIdeal.Skeleton
public import Idealize.ShloMosaic.Lib.ValueIdx
public import Idealize.ShloMosaic.Lib.Pipeline.Value

@[expose] public section

noncomputable section

namespace Cert.Proof.Value

open Cert.KernelIdeal Cert.KernelIdeal.Gen
open Idealize.ShloMosaic Idealize.ShloMosaic.ValueIdx

variable {F : FTy → Type} [FloatOps F]

/-! ## The value -/

/-- The index, in the `[125000, 128]` view of a table, of column `f` of the table's row `w`. -/
def cell (w : BitVec 32) (f : Nat) : S125000x128.Idx :=
  ix2 ⟨(w >>> 3).toNat % 125000, Nat.mod_lt _ (by decide)⟩ ⟨((w.toNat % 8) * 16 + f) % 128, Nat.mod_lt _ (by decide)⟩

/-- `p 0 + p 1 + … + p (n - 1)` from the left, starting at the zero word. -/
def sumTo (p : Nat → F .f32) : Nat → F .f32
  | 0 => Scalar.ofBits .f32 0x00000000#32
  | n + 1 => FloatOps.addf (sumTo p n) (p n)

/-- The product of column `f` of the two rows. -/
def prodAt (TU TI : S125000x128.Idx → F .f32) (w v : BitVec 32) (f : Nat) : F .f32 :=
  FloatOps.mulf (TU (cell w f)) (TI (cell v f))

/-- The inner product of row `w` of the first table and row `v` of the second. -/
def dotAt (TU TI : S125000x128.Idx → F .f32) (w v : BitVec 32) : F .f32 := sumTo (prodAt TU TI w v) 16

/-! ## Words -/

omit [FloatOps F] in
/-- The column word `(w & 7) * 16 + f` is `(w % 8) * 16 + f`. -/
theorem col_toNat (w : BitVec 32) (f : Nat) (hf : f < 16) :
    (IntOp.addi (IntOp.muli (IntOp.andi w 7#32) 16#32) (BitVec.ofNat 32 f)).toNat = (w.toNat % 8) * 16 + f := by
  show ((w &&& 7#32) * 16#32 + BitVec.ofNat 32 f).toNat = _
  have h : (w &&& 7#32).toNat = w.toNat % 8 := by
    rw [BitVec.toNat_and]; exact Nat.and_two_pow_sub_one_eq_mod w.toNat 3
  rw [BitVec.toNat_add, BitVec.toNat_mul, h, BitVec.toNat_ofNat, BitVec.toNat_ofNat]
  omega

/-- The row word of lane `x` of trip `c`: `16 * c + x`. -/
theorem row_toNat (c : Fin k0_t3_loop.trips) (x : S16.Idx) :
    (k0_pay10 (iota .scVector S16 32 [0] iota_S16_d0_w32_scVector) 0#32 1#32 c x).toNat = 16 * c.val + (x 0).val := by
  have hc : c.val < 16 := Nat.lt_of_lt_of_le c.isLt k0_t3_abs.2.1
  have hx : (x 0).val < 16 := (x 0).isLt
  show (IntOp.addi (IntOp.muli (Scf.iv 0#32 1#32 c) 16#32) (BitVec.ofNat 32 (0 * 16 + (x 0).val))).toNat = _
  show ((0#32 + BitVec.ofNat 32 c.val * 1#32) * 16#32 + (BitVec.ofNat 32 (0 * 16 + (x 0).val))).toNat = _
  simp only [BitVec.toNat_add, BitVec.toNat_mul, BitVec.toNat_ofNat]
  omega

/-- The column vector of a word vector `w` at column `f`, as the kernel writes it. -/
abbrev colVec (w : IVec S16 32) (f : Nat) : IVec S16 32 :=
  addi (muli (andi w (broadcast S16 7#32)) (broadcast S16 16#32)) (broadcast S16 (BitVec.ofNat 32 f))

/-- The row vector of trip `c`, as the kernel writes it. -/
abbrev rowVec (c : Fin k0_t3_loop.trips) : IVec S16 32 :=
  k0_pay10 (iota .scVector S16 32 [0] iota_S16_d0_w32_scVector) 0#32 1#32 c

/-- Every index the kernel reads a row buffer at is inside it. -/
theorem inb (c : Fin k0_t3_loop.trips) (w : IVec S16 32) (f : Nat) (hf : f < 16) :
    ∀ a x, ((![rowVec c, colVec w f] : Fin 2 → IVec S16 32) a x).toNat < S256x128.size a := by
  intro a x
  match a with
  | 0 =>
    show (rowVec c x).toNat < 256
    have hc : c.val < 16 := Nat.lt_of_lt_of_le c.isLt k0_t3_abs.2.1
    have hx : (x 0).val < 16 := (x 0).isLt
    rw [row_toNat]; omega
  | 1 =>
    show (IntOp.addi (IntOp.muli (IntOp.andi (w x) 7#32) 16#32) (BitVec.ofNat 32 f)).toNat < 128
    rw [col_toNat _ _ hf]; omega

/-- Lane `x` of the load at column `f` is the row buffer at row `16 * c + x` and column `(w % 8) * 16 + f`. -/
theorem load_apply (c : Fin k0_t3_loop.trips) (w : IVec S16 32) (f : Nat) (hf : f < 16)
    (h : ∀ a x, ((![rowVec c, colVec w f] : Fin 2 → IVec S16 32) a x).toNat < S256x128.size a)
    (g : S256x128.Idx → F .f32) (x : S16.Idx) :
    loadIdx (F := F) (e := .f32) g ![rowVec c, colVec w f] h x
      = g (ix2 ⟨16 * c.val + (x 0).val, by
            have hc : c.val < 16 := Nat.lt_of_lt_of_le c.isLt k0_t3_abs.2.1
            have hx : (x 0).val < 16 := (x 0).isLt
            omega⟩
          ⟨((w x).toNat % 8) * 16 + f, by omega⟩) := by
  unfold loadIdx
  congr 1
  funext a
  refine Fin.ext ?_
  match a with
  | 0 => exact row_toNat c x
  | 1 => exact col_toNat (w x) f hf

/-! ## The rows a half of the subcore's stretch reads -/

/-- The row buffer `g` holds, at row `r`, the row of the view `T` that word `256 * h + r` of the list `w` names. -/
def Fetched (T : S125000x128.Idx → F .f32) (w : S512.Idx → BitVec 32) (h : Nat) (g : S256x128.Idx → F .f32) : Prop :=
  ∀ (j : S512.Idx) (r : Fin 256) (k : Fin 128), (j 0).val = 256 * h + r.val →
    g (ix2 r k) = T (ix2 ⟨(w j >>> 3).toNat % 125000, Nat.mod_lt _ (by decide)⟩ k)

/-- Lane `x` of the load at column `f`, of a row buffer that holds the rows the list names: column `f` of the row of the
table that the lane's word names. -/
theorem lane {T : S125000x128.Idx → F .f32} {wL : S512.Idx → BitVec 32} {h : Nat} {g : S256x128.Idx → F .f32}
    (hg : Fetched T wL h g) (c : Fin k0_t3_loop.trips) {w : IVec S16 32} {x : S16.Idx} {j : S512.Idx}
    (hj : (j 0).val = 256 * h + 16 * c.val + (x 0).val) (hw : w x = wL j) {f : Nat} (hf : f < 16)
    (hin : ∀ a x, ((![rowVec c, colVec w f] : Fin 2 → IVec S16 32) a x).toNat < S256x128.size a) :
    loadIdx (F := F) (e := .f32) g ![rowVec c, colVec w f] hin x = T (cell (wL j) f) := by
  rw [load_apply c w f hf hin g x, hg j _ _ (by show _ = 256 * h + (16 * c.val + (x 0).val); omega), cell]
  congr 2
  refine Fin.ext ?_
  show (w x).toNat % 8 * 16 + f = ((wL j).toNat % 8 * 16 + f) % 128
  rw [hw]
  omega

end Cert.Proof.Value

end
-- ==== Proof.Setup.lean ====
/-
  The program as the launch theorem sees it, the resource algebra its proof runs in, and the buffers of one vector
  subcore as its task addresses them.
-/
module

public import proofs.«01_k».proof.Defs
public import proofs.«01_k».proof.Proof.Gen.KernelIdeal
public import proofs.«01_k».proof.Proof.Gen.KernelIdeal.Skeleton
public import proofs.«01_k».proof.Proof.Value
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Dot

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
/-- The call runs on sixteen subcores of each SparseCore, -/
theorem nSub_zero : (K (F := F)).nSub 0 = 16 := rfl
/-- and on two SparseCores. -/
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are distinct and none is scoped; no buffer is shared by a SparseCore's tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The task's processor and its buffers -/

/-- The SparseCore and the subcore of the task at `L`. -/
abbrev cV (L : grid0.Coords) : Fin τ.nSC := (L 0).castLE hcore0
abbrev jV (L : grid0.Coords) : Fin τ.nSub := (L 1).castLE hsub0

/-- The index arrays, the two tables' views and the result, as a subcore names them. -/
abbrev uwV : Memref sig .scVector .hbm S16384 .i32 := Memref.whole main_arg0_scv
abbrev iwV : Memref sig .scVector .hbm S16384 .i32 := Memref.whole main_arg1_scv
abbrev utV : Memref sig .scVector .hbm S125000x128 .f32 := Memref.whole main_v0_scv
abbrev itV : Memref sig .scVector .hbm S125000x128 .f32 := Memref.whole main_v1_scv
abbrev outV : Memref sig .scVector .hbm S16384 .f32 := Memref.whole main_v2_scv
/-- The subcore's scratch: its index words, their row numbers, the gathered rows, its stretch of the result. -/
abbrev uV : Memref sig .scVector .vmem S512 .i32 := Memref.whole cc0_scratch0
abbrev iV : Memref sig .scVector .vmem S512 .i32 := Memref.whole cc0_scratch1
abbrev ugV : Memref sig .scVector .vmem S512 .i32 := Memref.whole cc0_scratch2
abbrev igV : Memref sig .scVector .vmem S512 .i32 := Memref.whole cc0_scratch3
abbrev urV : Memref sig .scVector .vmem S256x128 .f32 := Memref.whole cc0_scratch4
abbrev irV : Memref sig .scVector .vmem S256x128 .f32 := Memref.whole cc0_scratch5
abbrev oV : Memref sig .scVector .vmem S512 .f32 := Memref.whole cc0_scratch6

end Cert.Proof.Dot

end
-- ==== Proof.Trip.lean ====
/-
  One trip of the innermost loop.
-/
module

public import proofs.«01_k».proof.Proof.Setup
public import Idealize.ShloMosaic.Lib.WritesUnit

@[expose] public section

noncomputable section

namespace Cert.Proof.Dot

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords)

/-- The innermost loop's body, at half `h` and sixteen `c`, over the subcore's buffers. -/
abbrev t3Prog (h : Fin k0_t2_loop.trips) (v6 : BitVec 32) (c : Fin k0_t3_loop.trips) :
    Prog (TpuEff nD τ sig (Elt F) Λ₀ (.scVector (cV L) (jV L))) Unit :=
  k0_t3_body L uwV (Memref.isWhole_whole _) iwV (Memref.isWhole_whole _) utV (Memref.isWhole_whole _) itV (Memref.isWhole_whole _)
    outV (Memref.isWhole_whole _) uV (Memref.isWhole_whole _) iV (Memref.isWhole_whole _) ugV (Memref.isWhole_whole _)
    igV (Memref.isWhole_whole _) urV (Memref.isWhole_whole _) irV (Memref.isWhole_whole _) oV (Memref.isWhole_whole _)
    cc0_scratch7 cc0_scratch8 cc0_scoped0 cc0_scoped1 cc0_scoped2
    (iota .scVector S16 32 [0] iota_S16_d0_w32_scVector) h v6 c ⟨⟩

/-! ## Sixteen elements at a time -/

/-- A store of sixteen elements after the first `n` extends by sixteen the stretch on which the buffer reads `G`. -/
theorem prefix_step {e : EltTy} (v : View sig .scVector .vmem S512 e) (f : v.ty.Contents (Elt F)) (G : S512.Idx → Elt F e)
    (n : Nat) {off : Fin 1 → Nat} (inb : ∀ a : Fin 1, off a + S16.size a ≤ S512.size a)
    (w : (Rect.unit (s := S512) off S16.size inb).shape.Idx → Elt F e) (hoff : off = ![n])
    (hf : ∀ j : S512.Idx, (j 0).val < n → v.read (Elt F) f j = G j)
    (hw : ∀ (x : S16.Idx) (j : S512.Idx), (j 0).val = n + (x 0).val → w x = G j) :
    ∀ j : S512.Idx, (j 0).val < n + 16 →
      v.read (Elt F) (v.writes (Elt F) f [⟨Rect.unit (s := S512) off S16.size inb, w⟩]) j = G j := by
  intro j hj
  by_cases h : (j 0).val < n
  · rw [View.read_writes_cons_unit_of_not_mem v f inb w [] j hoff 0 (Or.inl h)]
    exact hf j h
  · let x : S16.Idx := ValueIdx.ix1 (⟨(j 0).val - n, by omega⟩ : Fin 16)
    have hx : (j 0).val = n + (x 0).val := by show (j 0).val = n + ((j 0).val - n); omega
    rw [View.read_writes_cons_unit_of_mem v f inb w [] j x hoff (fun a => by
      have : a = 0 := Subsingleton.elim _ _
      subst this; exact hx)]
    exact hw x j hx

/-- Lane `x` of a load of sixteen elements after the first `n` is element `n + x`. -/
theorem load16 {e : EltTy} (v : View sig .scVector .vmem S512 e) (f : v.ty.Contents (Elt F)) {n : Nat} {off : Fin 1 → Nat}
    (inb : ∀ a : Fin 1, off a + S16.size a ≤ S512.size a) (hoff : off = ![n]) (x : S16.Idx) (j : S512.Idx)
    (hj : (j 0).val = n + (x 0).val) :
    v.readAt (Elt F) (Rect.unit (s := S512) off S16.size inb).toLoadRect f x = v.read (Elt F) f j := by
  subst hoff
  rw [View.readAt_apply]
  congr 1
  funext a
  have : a = 0 := Subsingleton.elim _ _
  subst this
  refine Fin.ext ?_
  show n + 1 * (x 0).val = (j 0).val
  omega

/-! ## The innermost loop's trip -/

/-- Of the scratch result, the first `n` elements are the inner products of the rows their words name. -/
def Done (TU TI : S125000x128.Idx → F .f32) (uL iL : S512.Idx → BitVec 32) (n : Nat) (fo : S512.Idx → F .f32) : Prop :=
  ∀ j : S512.Idx, (j 0).val < n → fo j = Value.dotAt TU TI (uL j) (iL j)

set_option maxHeartbeats 4000000 in
/-- Trip `c` of half `h` leaves sixteen more inner products, and the rest as it was. -/
theorem t3_trip (TU TI : S125000x128.Idx → F .f32) (uL iL : S512.Idx → BitVec 32) (gu gi : S256x128.Idx → F .f32)
    (fo : S512.Idx → F .f32)
    (h : Fin k0_t2_loop.trips) (v6 : BitVec 32) (c : Fin k0_t3_loop.trips)
    (hgu : Value.Fetched TU uL h.val gu) (hgi : Value.Fetched TI iL h.val gi)
    (hfo : Done TU TI uL iL (256 * h.val + 16 * c.val) fo) :
    iprop(((uV).view.loc (V d (cV L) (jV L)) ↦{fullShare} uL) ∗ ((iV).view.loc (V d (cV L) (jV L)) ↦{fullShare} iL)
        ∗ ((urV).view.loc (V d (cV L) (jV L)) ↦{fullShare} gu) ∗ ((irV).view.loc (V d (cV L) (jV L)) ↦{fullShare} gi)
        ∗ ((oV).view.loc (V d (cV L) (jV L)) ↦{fullShare} fo) : sProp 𝕄)
      ⊢ wp frame (wpE (defs₀ (F := F)) 𝒱₀ (V d (cV L) (jV L)) none) Set.univ (t3Prog (F := F) L h v6 c)
          fun _ => iprop(((uV).view.loc (V d (cV L) (jV L)) ↦{fullShare} uL) ∗ ((iV).view.loc (V d (cV L) (jV L)) ↦{fullShare} iL)
        ∗ ((urV).view.loc (V d (cV L) (jV L)) ↦{fullShare} gu) ∗ ((irV).view.loc (V d (cV L) (jV L)) ↦{fullShare} gi)
        ∗ ∃ fo' : S512.Idx → F .f32, ⌜Done TU TI uL iL (256 * h.val + 16 * (c.val + 1)) fo'⌝
            ∗ ((oV).view.loc (V d (cV L) (jV L)) ↦{fullShare} fo')) := by
  unfold t3Prog k0_t3_body
  sl_open_parts
  unfold SparseCore.vectorLoadIdx
  iintro ⟨Hu, Hi, Hur, Hir, Ho⟩
  sl_exec (disch := exact Value.inb _ _ _ (by decide))
  sl_step
  isplitl [Hu]; · iexact Hu
  isplitl [Hi]; · iexact Hi
  isplitl [Hur]; · iexact Hur
  isplitl [Hir]; · iexact Hir
  iexists _
  isplitr
  swap; · iexact Ho
  ipureintro
  intro j hj
  refine prefix_step (F := F) (oV).view fo (fun j => Value.dotAt TU TI (uL j) (iL j)) (256 * h.val + 16 * c.val) _ _ (k0_off5_eq h c)
    hfo (fun x j hx => ?_) j (by omega)
  have hwu := load16 (F := F) (uV).view uL (k0_off4_inb h c) (k0_off4_eq h c) x j hx
  have hwi := load16 (F := F) (iV).view iL (k0_off4_inb h c) (k0_off4_eq h c) x j hx
  have step (n : Nat) (hn : n < 16) {a : F .f32} (ha : a = Value.sumTo (Value.prodAt TU TI (uL j) (iL j)) n)
      (hin : ∀ a x, ((![Value.rowVec c, Value.colVec (View.readAt (Elt F) (uV).view
          (Rect.unit (s := S512) (k0_off4 h c) S16.size (k0_off4_inb h c)).toLoadRect uL) n] : Fin 2 → IVec S16 32) a x).toNat < S256x128.size a)
      (hin' : ∀ a x, ((![Value.rowVec c, Value.colVec (View.readAt (Elt F) (iV).view
          (Rect.unit (s := S512) (k0_off4 h c) S16.size (k0_off4_inb h c)).toLoadRect iL) n] : Fin 2 → IVec S16 32) a x).toNat < S256x128.size a) :
      FloatOps.addf a (FloatOps.mulf (loadIdx (F := F) (e := .f32) gu _ hin x) (loadIdx (F := F) (e := .f32) gi _ hin' x))
        = Value.sumTo (Value.prodAt TU TI (uL j) (iL j)) (n + 1) :=
    congrArg₂ FloatOps.addf ha (congrArg₂ FloatOps.mulf (Value.lane hgu c hx hwu hn hin) (Value.lane hgi c hx hwi hn hin'))
  have hu : View.readAt (Elt F) (urV).view (LoadRect.whole S256x128) gu = gu := Memref.readAt_whole _ _ _
  have hi : View.readAt (Elt F) (irV).view (LoadRect.whole S256x128) gi = gi := Memref.readAt_whole _ _ _
  rw [hu, hi]
  refine step 15 (by decide) ?_ _ _
  refine step 14 (by decide) ?_ _ _
  refine step 13 (by decide) ?_ _ _
  refine step 12 (by decide) ?_ _ _
  refine step 11 (by decide) ?_ _ _
  refine step 10 (by decide) ?_ _ _
  refine step 9 (by decide) ?_ _ _
  refine step 8 (by decide) ?_ _ _
  refine step 7 (by decide) ?_ _ _
  refine step 6 (by decide) ?_ _ _
  refine step 5 (by decide) ?_ _ _
  refine step 4 (by decide) ?_ _ _
  refine step 3 (by decide) ?_ _ _
  refine step 2 (by decide) ?_ _ _
  refine step 1 (by decide) ?_ _ _
  exact step 0 (by decide) rfl _ _

/-! ## The first loop's trip -/

/-- Of the list `g`, the first `n` words are the words of `w` shifted right by three. -/
def Shifted (w : S512.Idx → BitVec 32) (n : Nat) (g : S512.Idx → BitVec 32) : Prop :=
  ∀ j : S512.Idx, (j 0).val < n → g j = w j >>> 3

/-- The first loop's body, over the subcore's buffers. -/
abbrev t1Prog (k : Fin k0_t1_loop.trips) : Prog (TpuEff nD τ sig (Elt F) Λ₀ (.scVector (cV L) (jV L))) Unit :=
  k0_t1_body L uwV (Memref.isWhole_whole _) iwV (Memref.isWhole_whole _) utV (Memref.isWhole_whole _) itV (Memref.isWhole_whole _)
    outV (Memref.isWhole_whole _) uV (Memref.isWhole_whole _) iV (Memref.isWhole_whole _) ugV (Memref.isWhole_whole _)
    igV (Memref.isWhole_whole _) urV (Memref.isWhole_whole _) irV (Memref.isWhole_whole _) oV (Memref.isWhole_whole _)
    cc0_scratch7 cc0_scratch8 cc0_scoped0 cc0_scoped1 cc0_scoped2 k ⟨⟩

/-- Trip `k` leaves sixteen more row numbers in each list, and the rest as they were. -/
theorem t1_trip (uL iL gu gi : S512.Idx → BitVec 32) (k : Fin k0_t1_loop.trips)
    (hgu : Shifted uL (16 * k.val) gu) (hgi : Shifted iL (16 * k.val) gi) :
    iprop(((uV).view.loc (V d (cV L) (jV L)) ↦{fullShare} uL) ∗ ((iV).view.loc (V d (cV L) (jV L)) ↦{fullShare} iL)
        ∗ ((ugV).view.loc (V d (cV L) (jV L)) ↦{fullShare} gu) ∗ ((igV).view.loc (V d (cV L) (jV L)) ↦{fullShare} gi) : sProp 𝕄)
      ⊢ wp frame (wpE (defs₀ (F := F)) 𝒱₀ (V d (cV L) (jV L)) none) Set.univ (t1Prog (F := F) L k)
          fun _ => iprop(((uV).view.loc (V d (cV L) (jV L)) ↦{fullShare} uL) ∗ ((iV).view.loc (V d (cV L) (jV L)) ↦{fullShare} iL)
        ∗ (∃ gu' : S512.Idx → BitVec 32, ⌜Shifted uL (16 * (k.val + 1)) gu'⌝ ∗ ((ugV).view.loc (V d (cV L) (jV L)) ↦{fullShare} gu'))
        ∗ ∃ gi' : S512.Idx → BitVec 32, ⌜Shifted iL (16 * (k.val + 1)) gi'⌝ ∗ ((igV).view.loc (V d (cV L) (jV L)) ↦{fullShare} gi')) := by
  unfold t1Prog k0_t1_body
  iintro ⟨Hu, Hi, Hug, Hig⟩
  sl_exec
  sl_step
  isplitl [Hu]; · iexact Hu
  isplitl [Hi]; · iexact Hi
  isplitl [Hug]
  · iexists _
    isplitr
    swap; · iexact Hug
    ipureintro
    intro j hj
    refine prefix_step (F := F) (ugV).view gu (fun j => uL j >>> 3) (16 * k.val) _ _ (k0_off2_eq k) hgu (fun x j hx => ?_) j (by omega)
    exact congrArg (fun w : BitVec 32 => w >>> 3) (load16 (F := F) (uV).view uL (k0_off2_inb k) (k0_off2_eq k) x j hx)
  · iexists _
    isplitr
    swap; · iexact Hig
    ipureintro
    intro j hj
    refine prefix_step (F := F) (igV).view gi (fun j => iL j >>> 3) (16 * k.val) _ _ (k0_off2_eq k) hgi (fun x j hx => ?_) j (by omega)
    exact congrArg (fun w : BitVec 32 => w >>> 3) (load16 (F := F) (iV).view iL (k0_off2_inb k) (k0_off2_eq k) x j hx)

end Cert.Proof.Dot

end
-- ==== Proof.Gather.lean ====
/-
  One trip of the middle loop: the two gathers of 256 rows each, their waits, and the innermost loop over them.
-/
module

public import proofs.«01_k».proof.Proof.Trip

@[expose] public section

noncomputable section

namespace Cert.Proof.Dot

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords)

/-- The row numbers of a list of words. -/
def sh (w : S512.Idx → BitVec 32) : S512.Idx → BitVec 32 := fun j => w j >>> 3

/-- The middle loop's body, over the subcore's buffers. -/
abbrev t2Prog (h : Fin k0_t2_loop.trips) : Prog (TpuEff nD τ sig (Elt F) Λ₀ (.scVector (cV L) (jV L))) Unit :=
  k0_t2_body L uwV (Memref.isWhole_whole _) iwV (Memref.isWhole_whole _) utV (Memref.isWhole_whole _) itV (Memref.isWhole_whole _)
    outV (Memref.isWhole_whole _) uV (Memref.isWhole_whole _) iV (Memref.isWhole_whole _) ugV (Memref.isWhole_whole _)
    igV (Memref.isWhole_whole _) urV (Memref.isWhole_whole _) irV (Memref.isWhole_whole _) oV (Memref.isWhole_whole _)
    cc0_scratch7 cc0_scratch8 cc0_scoped0 cc0_scoped1 cc0_scoped2
    (iota .scVector S16 32 [0] iota_S16_d0_w32_scVector) h ⟨⟩

/-- The semaphores of the two gathers. -/
abbrev uCell : GSem nD τ sig := (V d (cV L) (jV L), .dma cc0_scratch7.sem)
abbrev iCell : GSem nD τ sig := (V d (cV L) (jV L), .dma cc0_scratch8.sem)

omit [FloatOps F] in
/-- A word below a million shifted right by three is a row of the view. -/
theorem sh_lt {w : BitVec 32} (hw : w.toNat < 1000000) : (w >>> 3).toNat < 125000 := by
  rw [BitVec.toNat_ushiftRight, Nat.shiftRight_eq_div_pow]; omega

omit [FloatOps F] in
/-- The 256 rows that half `h` of the list names, gathered into a row buffer. -/
theorem fetched_of_gather (T : S125000x128.Idx → F .f32) (w : S512.Idx → BitVec 32) (h : Nat)
    (hw : ∀ j, (w j).toNat < 1000000) (T' : S125000x128.Idx → F .f32) (hT : T' = T) (ls : S256.Idx → BitVec 32)
    (hls : ∀ (r : Fin 256) (j : S512.Idx), (j 0).val = 256 * h + r.val → ls (ix1 r) = sh w j)
    (hin : ∀ x, (ls x).toNat < S125000x128.size gathers_S125000x128_S256x128.axis) :
    Value.Fetched T w h (SparseCore.gatherPayload (F := F) (e := .f32) gathers_S125000x128_S256x128 T' (SparseCore.rows (F := F) ls rfl hin)) := by
  subst hT
  intro j r k hj
  unfold SparseCore.gatherPayload
  congr 1
  funext a
  refine Fin.ext ?_
  match a with
  | 0 =>
    show (gathers_S125000x128_S256x128.idx (SparseCore.rows (F := F) ls rfl hin) (ix2 r k) gathers_S125000x128_S256x128.axis).val = _
    rw [Shape.Gathers.idx_axis]
    show (ls (S256.rowMajor.symm (r.cast rfl))).toNat = (w j >>> 3).toNat % 125000
    rw [show S256.rowMajor.symm (r.cast rfl) = ix1 r from by
      rw [Equiv.symm_apply_eq]; exact Fin.ext (Shape.rowMajor_val_one (d := ![256]) (ix1 r)).symm, hls r j hj, Nat.mod_eq_of_lt (sh_lt (hw j))]
    rfl
  | 1 => rw [Shape.Gathers.idx_of_ne _ _ _ _ (by decide)]; rfl

omit [FloatOps F] in
/-- A buffer written whole is what was written. -/
theorem writes_whole (b : Ref sig .scVector) (f w : b.ty.Contents (Elt F)) :
    (Memref.whole b).view.writes (Elt F) f [⟨Rect.whole b.ty.shape, w⟩] = w :=
  Memref.write_access_whole_univ (Elt F) b f w

/-- Element `r` of half `h` of a list of 512 is its element `256 * h + r`. -/
theorem half_idx (h : Fin k0_t2_loop.trips) (r : Fin 256) (j : S512.Idx) (hj : (j 0).val = 256 * h.val + r.val) :
    (Rect.unit (s := S512) (k0_off3 h) S256.size (k0_off3_inb h)).emb (ix1 r) = j := by
  funext a
  have : a = 0 := Subsingleton.elim _ _
  subst this
  refine Fin.ext ?_
  show k0_off3 h 0 + 1 * r.val = (j 0).val
  rw [k0_off3_eq]
  show 256 * h.val + 1 * r.val = (j 0).val
  omega

/-! ## The trip -/

/-- What the innermost loop works on: the words, the gathered rows, and the scratch result done up to element `n`. -/
def Inner (TU TI : S125000x128.Idx → F .f32) (uL iL : S512.Idx → BitVec 32) (gu gi : S256x128.Idx → F .f32) (n : Nat) : sProp 𝕄 :=
  iprop(((uV).view.loc (V d (cV L) (jV L)) ↦{fullShare} uL) ∗ ((iV).view.loc (V d (cV L) (jV L)) ↦{fullShare} iL)
    ∗ ((urV).view.loc (V d (cV L) (jV L)) ↦{fullShare} gu) ∗ ((irV).view.loc (V d (cV L) (jV L)) ↦{fullShare} gi)
    ∗ ∃ fo : S512.Idx → F .f32, ⌜Done TU TI uL iL n fo⌝ ∗ ((oV).view.loc (V d (cV L) (jV L)) ↦{fullShare} fo))

/-- What the middle loop works on, the scratch result done up to element `n`. -/
def Middle (O : CellTallies nD τ sig (HIx 1)) (W : Waits sig (HIx 1)) (qu qi : PosShare TreeShare)
    (TU TI : S125000x128.Idx → F .f32) (uL iL : S512.Idx → BitVec 32) (n : Nat) : sProp 𝕄 :=
  iprop(Transfers.MayWaits (V d (cV L) (jV L)) (default : HIx 1) O
    ∗ ((uV).view.loc (V d (cV L) (jV L)) ↦{fullShare} uL) ∗ ((iV).view.loc (V d (cV L) (jV L)) ↦{fullShare} iL)
    ∗ ((ugV).view.loc (V d (cV L) (jV L)) ↦{fullShare} sh uL) ∗ ((igV).view.loc (V d (cV L) (jV L)) ↦{fullShare} sh iL)
    ∗ ((utV).view.loc (V d (cV L) (jV L)) ↦{qu} TU) ∗ ((itV).view.loc (V d (cV L) (jV L)) ↦{qi} TI)
    ∗ (∃ gu : S256x128.Idx → F .f32, (urV).view.loc (V d (cV L) (jV L)) ↦{fullShare} gu)
    ∗ (∃ gi : S256x128.Idx → F .f32, (irV).view.loc (V d (cV L) (jV L)) ↦{fullShare} gi)
    ∗ (∃ fo : S512.Idx → F .f32, ⌜Done TU TI uL iL n fo⌝ ∗ ((oV).view.loc (V d (cV L) (jV L)) ↦{fullShare} fo))
    ∗ semVal (uCell d L) 0 ∗ semVal (iCell d L) 0
    ∗ ∃ W' : Waits sig (HIx 1), ⌜∀ p ∈ W', p ∈ W ∨ p.2 = none⌝ ∗ owes (V d (cV L) (jV L)) O W')

set_option maxHeartbeats 4000000 in
/-- Trip `h` gathers the rows that half `h` of the lists names and leaves 256 more inner products. -/
theorem t2_trip (O : CellTallies nD τ sig (HIx 1)) (W : Waits sig (HIx 1)) (qu qi : PosShare TreeShare)
    (TU TI : S125000x128.Idx → F .f32) (uL iL : S512.Idx → BitVec 32) (h : Fin k0_t2_loop.trips)
    (huL : ∀ j, (uL j).toNat < 1000000) (hiL : ∀ j, (iL j).toNat < 1000000) :
    (Middle (F := F) d L O W qu qi TU TI uL iL (256 * h.val) : sProp 𝕄)
      ⊢ wp frame (wpE (defs₀ (F := F)) 𝒱₀ (V d (cV L) (jV L)) none) Set.univ (t2Prog (F := F) L h)
          fun _ => Middle (F := F) d L O W qu qi TU TI uL iL (256 * (h.val + 1)) := by
  unfold t2Prog k0_t2_body Middle
  have hinu : ∀ x, ((((ugV).slice (Rect.unit (s := S512) (k0_off3 h) S256.size (k0_off3_inb h)) (fun _ => rfl)).view.read (Elt F) (sh uL)) x).toNat
      < S125000x128.size gathers_S125000x128_S256x128.axis := fun x => sh_lt (huL _)
  have hini : ∀ x, ((((igV).slice (Rect.unit (s := S512) (k0_off3 h) S256.size (k0_off3_inb h)) (fun _ => rfl)).view.read (Elt F) (sh iL)) x).toNat
      < S125000x128.size gathers_S125000x128_S256x128.axis := fun x => sh_lt (hiL _)
  iintro ⟨Hmw, Hu, Hi, Hug, Hig, Hut, Hit, ⟨%gu, Hur⟩, ⟨%gi, Hir⟩, ⟨%fo, %hfo, Ho⟩, HsemU, HsemI, %W', %hW', HO⟩
  sl_exec
  have hfu : Value.Fetched TU uL h.val ((urV).view.writes (Elt F) (urV).view.junk
      [⟨Rect.whole S256x128, t2_trip.sl.gather0 TU uL h hinu⟩]) := by
    rw [show (urV).view.writes (Elt F) (urV).view.junk [⟨Rect.whole S256x128, t2_trip.sl.gather0 TU uL h hinu⟩]
      = t2_trip.sl.gather0 TU uL h hinu from writes_whole _ _ _]
    unfold t2_trip.sl.gather0
    refine fetched_of_gather TU uL h.val huL _ (Memref.read_access_unit_zero (Elt F) main_v0_scv (by funext a; match a with | 0 => rfl | 1 => rfl) _ TU)
      _ (fun r j hj => ?_) hinu
    exact congrArg (sh uL) (half_idx h r j hj)
  have hfi : Value.Fetched TI iL h.val ((irV).view.writes (Elt F) (irV).view.junk
      [⟨Rect.whole S256x128, t2_trip.sl.gather1 TI iL h hini⟩]) := by
    rw [show (irV).view.writes (Elt F) (irV).view.junk [⟨Rect.whole S256x128, t2_trip.sl.gather1 TI iL h hini⟩]
      = t2_trip.sl.gather1 TI iL h hini from writes_whole _ _ _]
    unfold t2_trip.sl.gather1
    refine fetched_of_gather TI iL h.val hiL _ (Memref.read_access_unit_zero (Elt F) main_v1_scv (by funext a; match a with | 0 => rfl | 1 => rfl) _ TI)
      _ (fun r j hj => ?_) hini
    exact congrArg (sh iL) (half_idx h r j hj)
  generalize (urV).view.writes (Elt F) (urV).view.junk [⟨Rect.whole S256x128, t2_trip.sl.gather0 TU uL h hinu⟩] = gu' at hfu ⊢
  generalize (irV).view.writes (Elt F) (irV).view.junk [⟨Rect.whole S256x128, t2_trip.sl.gather1 TI iL h hini⟩] = gi' at hfi ⊢
  sl_for (fun k _ => Inner (F := F) d L TU TI uL iL gu' gi' (256 * h.val + 16 * k)) $$ [Hu Hi Hur Hir Ho]
  case region =>
    intro k _
    unfold Inner
    iintro ⟨Hu, Hi, Hur, Hir, %fo', %hfo', Ho⟩
    ihave Hwp := (t3_trip (F := F) d L TU TI uL iL gu' gi' fo' h (t2_trip.sl.v6 h) k hfu hfi hfo') $$ [Hu Hi Hur Hir Ho]
    · isplitl [Hu]; · iexact Hu
      isplitl [Hi]; · iexact Hi
      isplitl [Hur]; · iexact Hur
      isplitl [Hir]; · iexact Hir
      iexact Ho
    iexact Hwp
  · unfold Inner
    isplitl [Hu]; · iexact Hu
    isplitl [Hi]; · iexact Hi
    isplitl [Hur]; · iexact Hur
    isplitl [Hir]; · iexact Hir
    iexists fo; isplitr
    · ipureintro; exact hfo
    · iexact Ho
  iintro %_ HI
  unfold Inner
  icases HI with ⟨Hu, Hi, Hur, Hir, %fo', %hfo', Ho⟩
  sl_exec
  sl_step
  isplitl [Hmw]; · iexact Hmw
  isplitl [Hu]; · iexact Hu
  isplitl [Hi]; · iexact Hi
  isplitl [Hug]; · iexact Hug
  isplitl [Hig]; · iexact Hig
  isplitl [Hut]; · iexact Hut
  isplitl [Hit]; · iexact Hit
  isplitl [Hur]; · iexists _; iexact Hur
  isplitl [Hir]; · iexists _; iexact Hir
  isplitl [Ho]
  · iexists fo'; isplitr
    · ipureintro; exact hfo'
    · iexact Ho
  isplitl [HsemU]; · iexact HsemU
  isplitl [HsemI]; · iexact HsemI
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

end Cert.Proof.Dot

end
-- ==== Proof.Tile.lean ====
/-
  One vector subcore's task: its stretch of the two index arrays fetched, their row numbers computed, the gathers and the
  inner products, and its stretch of the result written out.
-/
module

public import proofs.«01_k».proof.Proof.Gather
public import Idealize.ShloMosaic.Lib.ShareLeaves

@[expose] public section

noncomputable section

namespace Cert.Proof.Dot

open Cert.KernelIdeal Cert.KernelIdeal.Gen

open Idealize.ShloMosaic Idealize.ShloMosaic.ValueIdx
open Idealize.ShloMosaic.SparseCore (V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## The arrays -/

/-- The user and item index arrays, the two tables, the views of them, and the result. -/
abbrev uLoc (d : Dev nD) : Loc nD τ sig := (SparseCore.T d).loc main_arg0
abbrev iLoc (d : Dev nD) : Loc nD τ sig := (SparseCore.T d).loc main_arg1
abbrev utLoc (d : Dev nD) : Loc nD τ sig := (SparseCore.T d).loc main_arg2
abbrev itLoc (d : Dev nD) : Loc nD τ sig := (SparseCore.T d).loc main_arg3
abbrev uvLoc (d : Dev nD) : Loc nD τ sig := (SparseCore.T d).loc main_v0
abbrev ivLoc (d : Dev nD) : Loc nD τ sig := (SparseCore.T d).loc main_v1
abbrev oLoc (d : Dev nD) : Loc nD τ sig := (SparseCore.T d).loc main_v2

/-- The index words at launch. -/
abbrev uW (d : Dev nD) : S16384.Idx → BitVec 32 := m (uLoc d)
abbrev iW (d : Dev nD) : S16384.Idx → BitVec 32 := m (iLoc d)
/-- The tables' views, of the tables at launch. -/
def TU (d : Dev nD) : S125000x128.Idx → F .f32 :=
  shapeCast S125000x128 (show S1000000x16.Idx → F .f32 from m (utLoc d)) shapeCasts_S1000000x16_S125000x128
def TI (d : Dev nD) : S125000x128.Idx → F .f32 :=
  shapeCast S125000x128 (show S1000000x16.Idx → F .f32 from m (itLoc d)) shapeCasts_S1000000x16_S125000x128
/-- The result: at each element, the inner product of the rows its two words name. -/
def res (d : Dev nD) : S16384.Idx → F .f32 := fun b => Value.dotAt (TU m d) (TI m d) (uW m d b) (iW m d b)

/-- What the proof asks of the launch memory: the index words are below a million. -/
def PreOK : Prop := ∀ (d : Dev nD) (b : S16384.Idx), (uW m d b).toNat < 1000000 ∧ (iW m d b).toNat < 1000000

/-! ## The tiles' stretches -/

/-- The array divides into 32 stretches. -/
theorem tdiv : 32 ∣ S16384.size 0 := ⟨512, rfl⟩
/-- Stretch `w` of the 32 of an array of 16384. -/
abbrev trow (w : Fin 32) : Rect S16384 := Rect.part (s := S16384) (a₀ := 0) tdiv w
abbrev tset (w : Fin 32) : Finset S16384.Idx := (trow w).set
/-- Tile `w`'s share of a table's view. -/
abbrev tq (w : Fin 32) : PosShare TreeShare := ShareLeaves.leaf 5 fullShare w

/-- What tile `w` is handed, and brings back: its stretch of the index arrays and of the result, its share of the views. -/
abbrev tileRes (d : Dev nD) (w : Fin 32) (f : S16384.Idx → F .f32) : sProp 𝕄 :=
  iprop((uLoc d ↦[tset w]{fullShare} m (uLoc d)) ∗ (iLoc d ↦[tset w]{fullShare} m (iLoc d))
    ∗ (uvLoc d ↦{tq w} TU m d) ∗ (ivLoc d ↦{tq w} TI m d) ∗ (oLoc d ↦[tset w]{fullShare} f))

variable (d : Dev nD) (L : grid0.Coords)

/-- The tile at `L`: two to each subcore number, one on either SparseCore. -/
def wOf (L : grid0.Coords) : Fin 32 := ⟨2 * (L 1).val + (L 0).val, by
  have h0 : (L 0).val < 2 := (L 0).isLt
  have h1 : (L 1).val < 16 := (L 1).isLt
  omega⟩

/-- The stretch of the task at `L`, at the bounds that the task computes. -/
abbrev trowK (L : grid0.Coords) : Rect S16384 := Rect.unit (s := S16384) (k0_off1 L) S512.size (k0_off1_inb L)

omit [FloatOps F] in
/-- The stretch that the task at `L` computes its bounds of is the one of its tile. -/
theorem trowK_eq : trowK L = trow (wOf L) := by
  unfold trowK trow Rect.part Rect.block
  congr 1 <;> funext a
  · rw [k0_off1_eq]
    match a with
    | 0 => simp [Shape.partIx, Shape.partSize, wOf]; omega
  · match a with
    | 0 => simp [Shape.partSize]

/-- The tile's stretches, as the task addresses them. -/
abbrev uRowK (L : grid0.Coords) : Memref sig .scVector .hbm S512 .i32 := (uwV).slice (trowK L) (fun _ => rfl)
abbrev iRowK (L : grid0.Coords) : Memref sig .scVector .hbm S512 .i32 := (iwV).slice (trowK L) (fun _ => rfl)
abbrev oRowK (L : grid0.Coords) : Memref sig .scVector .hbm S512 .f32 := (outV).slice (trowK L) (fun _ => rfl)

omit [FloatOps F] in
/-- The elements of the stretches, as the task addresses them, are those of its tile's stretch: of the user words, -/
theorem set_uRowK : (uRowK L).view.set = tset (wOf L) := by
  show ((View.whole (main_arg0_scv : Ref sig .scVector)).slice (trowK L)).set = _
  rw [View.set_slice, trowK_eq]; exact Finset.map_refl
omit [FloatOps F] in
/-- of the item words, -/
theorem set_iRowK : (iRowK L).view.set = tset (wOf L) := by
  show ((View.whole (main_arg1_scv : Ref sig .scVector)).slice (trowK L)).set = _
  rw [View.set_slice, trowK_eq]; exact Finset.map_refl
omit [FloatOps F] in
/-- and of the result. -/
theorem set_oRowK : (oRowK L).view.set = tset (wOf L) := by
  show ((View.whole (main_v2_scv : Ref sig .scVector)).slice (trowK L)).set = _
  rw [View.set_slice, trowK_eq]; exact Finset.map_refl

omit [FloatOps F] in
/-- So a stretch held as the task addresses it is the array held there: of the user words, -/
theorem pts_uRowK (f : Buf (Elt F) (uLoc d)) :
    ((uRowK L).view.loc (V d (cV L) (jV L)) ↦[(uRowK L).view.set]{fullShare} f : sProp 𝕄) = uLoc d ↦[tset (wOf L)]{fullShare} f := by
  rw [set_uRowK]
omit [FloatOps F] in
/-- of the item words, -/
theorem pts_iRowK (f : Buf (Elt F) (iLoc d)) :
    ((iRowK L).view.loc (V d (cV L) (jV L)) ↦[(iRowK L).view.set]{fullShare} f : sProp 𝕄) = iLoc d ↦[tset (wOf L)]{fullShare} f := by
  rw [set_iRowK]
omit [FloatOps F] in
/-- and of the result. -/
theorem pts_oRowK (f : Buf (Elt F) (oLoc d)) :
    ((oRowK L).view.loc (V d (cV L) (jV L)) ↦[(oRowK L).view.set]{fullShare} f : sProp 𝕄) = oLoc d ↦[tset (wOf L)]{fullShare} f := by
  rw [set_oRowK]

/-- The semaphores of the task's three copies. -/
abbrev r0Cell : GSem nD τ sig := (V d (cV L) (jV L), .dma cc0_scoped0.sem)
abbrev r1Cell : GSem nD τ sig := (V d (cV L) (jV L), .dma cc0_scoped1.sem)
abbrev r2Cell : GSem nD τ sig := (V d (cV L) (jV L), .dma cc0_scoped2.sem)

/-- The cells the task names, one after another, and what is left of the subcore's own. -/
abbrev restCells : Finset (GSem nD τ sig) :=
  (((((ownCells (V d (cV L) (jV L))).erase (uCell d L)).erase (iCell d L)).erase (r0Cell d L)).erase (r1Cell d L)).erase (r2Cell d L)

omit [FloatOps F] in
/-- A scoped DMA semaphore of the subcore is among its own. -/
theorem mem_cell (sm : DmaSem sig) (h : (SemLoc.dma sm : SemLoc sig).isScoped .scVector = true) :
    ((V d (cV L) (jV L), .dma sm) : GSem nD τ sig) ∈ ownCells (V d (cV L) (jV L)) := mem_ownCells.mpr ⟨rfl, h⟩

omit [FloatOps F] in
/-- Different semaphores are different cells. -/
theorem cell_ne {s t : DmaSem sig} (h : s ≠ t) :
    ((V d (cV L) (jV L), .dma s) : GSem nD τ sig) ≠ (V d (cV L) (jV L), .dma t) := fun e => h (by
  have := congrArg Prod.snd e
  exact SemLoc.dma.inj this)

omit [FloatOps F] in
/-- The five semaphores the task names are among the subcore's own. -/
theorem ownSems0_V :
    (ownSems0 (V d (cV L) (jV L)) : sProp 𝕄)
      = iprop(semVal (uCell d L) 0 ∗ semVal (iCell d L) 0 ∗ semVal (r0Cell d L) 0 ∗ semVal (r1Cell d L) 0 ∗ semVal (r2Cell d L) 0
          ∗ bigSep (restCells d L) fun g => semVal g 0) := by
  unfold SparseCore.Cfg.ownSems0 restCells
  rw [SparseCore.bigSep_erase' (mem_cell d L cc0_scratch7.sem (by decide)),
    SparseCore.bigSep_erase' (Finset.mem_erase.mpr ⟨cell_ne d L (by decide), mem_cell d L cc0_scratch8.sem (by decide)⟩),
    SparseCore.bigSep_erase' (Finset.mem_erase.mpr ⟨cell_ne d L (by decide), Finset.mem_erase.mpr ⟨cell_ne d L (by decide),
      mem_cell d L cc0_scoped0.sem (by decide)⟩⟩),
    SparseCore.bigSep_erase' (Finset.mem_erase.mpr ⟨cell_ne d L (by decide), Finset.mem_erase.mpr ⟨cell_ne d L (by decide),
      Finset.mem_erase.mpr ⟨cell_ne d L (by decide), mem_cell d L cc0_scoped1.sem (by decide)⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide),
      mem_cell d L cc0_scoped2.sem (by decide)⟩⟩⟩⟩)]

/-- A scratch buffer of the subcore. -/
abbrev sRef (b : Ref sig .scVector) : DevRef τ sig := (Proc.scVector (cV L) (jV L)).devRef b
/-- What is left of the subcore's buffers once the seven the task names are taken out. -/
abbrev restRefs : Finset (DevRef τ sig) :=
  (((((((ownRefs (τ := τ) (.scVector (cV L) (jV L))).erase (sRef L cc0_scratch0)).erase (sRef L cc0_scratch1)).erase (sRef L cc0_scratch2)).erase
    (sRef L cc0_scratch3)).erase (sRef L cc0_scratch4)).erase (sRef L cc0_scratch5)).erase (sRef L cc0_scratch6)

omit [FloatOps F] in
/-- Different buffers are different device references. -/
theorem ref_ne {a b : Ref sig .scVector} (h : a ≠ b) : sRef L a ≠ sRef L b := fun e => h (Proc.devRef_injective _ e)

omit [FloatOps F] in
/-- The seven scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f) ∗ (∃ f, (V d (cV L) (jV L)).loc cc0_scratch5 ↦{fullShare} f)
          ∗ (∃ f, (V d (cV L) (jV L)).loc cc0_scratch6 ↦{fullShare} f)
          ∗ bigSep (restRefs L) fun b => iprop(∃ f, ((d, b) : Loc nD τ sig) ↦{fullShare} f)) := by
  have own (b : Ref sig .scVector) (hb : (sRef L b).owner = .proc (Proc.scVector (cV L) (jV L))) :
      sRef L b ∈ ownRefs (τ := τ) (.scVector (cV L) (jV L)) :=
    SparseCore.Cfg.mem_ownRefs_of_owner (p := Proc.scVector (cV L) (jV L)) (b := sRef L b) hb
  unfold SparseCore.Cfg.ownBufs restRefs
  refine (SparseCore.bigSep_erase' (own cc0_scratch0 rfl)).trans ?_
  rw [SparseCore.bigSep_erase' (Finset.mem_erase.mpr ⟨ref_ne L (by decide), own cc0_scratch1 rfl⟩),
    SparseCore.bigSep_erase' (Finset.mem_erase.mpr ⟨ref_ne L (by decide), Finset.mem_erase.mpr ⟨ref_ne L (by decide), own cc0_scratch2 rfl⟩⟩),
    SparseCore.bigSep_erase' (Finset.mem_erase.mpr ⟨ref_ne L (by decide), Finset.mem_erase.mpr ⟨ref_ne L (by decide),
      Finset.mem_erase.mpr ⟨ref_ne L (by decide), own cc0_scratch3 rfl⟩⟩⟩),
    SparseCore.bigSep_erase' (Finset.mem_erase.mpr ⟨ref_ne L (by decide), Finset.mem_erase.mpr ⟨ref_ne L (by decide),
      Finset.mem_erase.mpr ⟨ref_ne L (by decide), Finset.mem_erase.mpr ⟨ref_ne L (by decide), own cc0_scratch4 rfl⟩⟩⟩⟩),
    SparseCore.bigSep_erase' (Finset.mem_erase.mpr ⟨ref_ne L (by decide), Finset.mem_erase.mpr ⟨ref_ne L (by decide),
      Finset.mem_erase.mpr ⟨ref_ne L (by decide), Finset.mem_erase.mpr ⟨ref_ne L (by decide),
      Finset.mem_erase.mpr ⟨ref_ne L (by decide), own cc0_scratch5 rfl⟩⟩⟩⟩⟩),
    SparseCore.bigSep_erase' (Finset.mem_erase.mpr ⟨ref_ne L (by decide), Finset.mem_erase.mpr ⟨ref_ne L (by decide),
      Finset.mem_erase.mpr ⟨ref_ne L (by decide), Finset.mem_erase.mpr ⟨ref_ne L (by decide),
      Finset.mem_erase.mpr ⟨ref_ne L (by decide), Finset.mem_erase.mpr ⟨ref_ne L (by decide), own cc0_scratch6 rfl⟩⟩⟩⟩⟩⟩)]

end Cert.Proof.Dot

end
-- ==== Proof.TileBody.lean ====
/-
  The task of one vector subcore, from the pieces it is handed to the pieces it brings back.
-/
module

public import proofs.«01_k».proof.Proof.Tile

@[expose] public section

noncomputable section

namespace Cert.Proof.Dot

open Cert.KernelIdeal Cert.KernelIdeal.Gen

open Idealize.ShloMosaic Idealize.ShloMosaic.ValueIdx
open Idealize.ShloMosaic.SparseCore (V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (m : (ℓ : Loc nD τ sig) → Buf (Elt F) ℓ)

variable (d : Dev nD) (L : grid0.Coords)

/-- The task's words: its stretch of an index array. -/
def words (f : S16384.Idx → BitVec 32) : S512.Idx → BitVec 32 := fun j => f ((trowK L).emb j)

/-- What the first loop works on, the lists done up to word `n`. -/
def First (uL iL : S512.Idx → BitVec 32) (n : Nat) : sProp 𝕄 :=
  iprop(((uV).view.loc (V d (cV L) (jV L)) ↦{fullShare} uL) ∗ ((iV).view.loc (V d (cV L) (jV L)) ↦{fullShare} iL)
    ∗ (∃ gu : S512.Idx → BitVec 32, ⌜Shifted uL n gu⌝ ∗ ((ugV).view.loc (V d (cV L) (jV L)) ↦{fullShare} gu))
    ∗ ∃ gi : S512.Idx → BitVec 32, ⌜Shifted iL n gi⌝ ∗ ((igV).view.loc (V d (cV L) (jV L)) ↦{fullShare} gi))

omit [FloatOps F] in
/-- A list done whole is the list of row numbers. -/
theorem shifted_all {w g : S512.Idx → BitVec 32} (h : Shifted w 512 g) : g = sh w := funext fun j => h j (j 0).isLt

/-- The tile's stretch of the result, written from the scratch result done whole, is the stated result there. -/
theorem out_eq (fo w : S512.Idx → F .f32) (hw : w = fo) (f : S16384.Idx → F .f32)
    (hfo : Done (TU m d) (TI m d) (words L (uW m d)) (words L (iW m d)) 512 fo) :
    ∀ b ∈ (oRowK L).view.set, (oRowK L).view.writes (Elt F) f [⟨Rect.whole S512, w⟩] b = res m d b := by
  subst hw
  intro b hb
  obtain ⟨j, -, rfl⟩ := Finset.mem_map.mp hb
  have e := congrFun (View.read_writes_whole (Val := Elt F) (oRowK L).view f w) j
  rw [View.read_apply] at e
  exact e.trans (hfo j (j 0).isLt)

set_option maxHeartbeats 8000000 in
/-- The task on the subcore at `L`: handed its stretches and shares, it brings them back with the stretch of the result at
the stated inner products; its scratch at some contents, its semaphores at zero, and no wait left. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ tileRes m d (wOf L) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__body L uwV (Memref.isWhole_whole _) iwV (Memref.isWhole_whole _) utV (Memref.isWhole_whole _) itV (Memref.isWhole_whole _)
            outV (Memref.isWhole_whole _) uV (Memref.isWhole_whole _) iV (Memref.isWhole_whole _) ugV (Memref.isWhole_whole _)
            igV (Memref.isWhole_whole _) urV (Memref.isWhole_whole _) irV (Memref.isWhole_whole _) oV (Memref.isWhole_whole _)
            cc0_scratch7 cc0_scratch8 cc0_scoped0 cc0_scoped1 cc0_scoped2)
          fun _ => iprop(tileRes m d (wOf L) (res m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__body_eq_skeleton]; unfold cc0__body_skel
  rw [(K (F := F)).scopedBufs_V hF d (cV L) (jV L), SparseCore.Cfg.scopedSems0_V (Val := Elt F) d (cV L) (jV L), ownSems0_V, ownBufs_V]
  iintro ⟨#Hlv, -, ⟨Huw, Hiw, Hut, Hit, Hout⟩, ⟨⟨%f0, Hu⟩, ⟨%f1, Hi⟩, ⟨%f2, Hug⟩, ⟨%f3, Hig⟩, ⟨%f4, Hur⟩, ⟨%f5, Hir⟩, ⟨%f6, Ho⟩, Hbufs⟩, ⟨HsemU, HsemI, Hsem0, Hsem1, Hsem2, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Huw' := (Entails.of_eq (pts_uRowK (F := F) d L _).symm) $$ Huw
  ihave Hiw' := (Entails.of_eq (pts_iRowK (F := F) d L _).symm) $$ Hiw
  ihave Hout' := (Entails.of_eq (pts_oRowK (F := F) d L _).symm) $$ Hout
  ihave Hut' := (Entails.of_eq (show ((uvLoc d ↦{tq (wOf L)} TU m d : sProp 𝕄)) = ((utV).view.loc (V d (cV L) (jV L)) ↦{tq (wOf L)} TU m d) from rfl)) $$ Hut
  ihave Hit' := (Entails.of_eq (show ((ivLoc d ↦{tq (wOf L)} TI m d : sProp 𝕄)) = ((itV).view.loc (V d (cV L) (jV L)) ↦{tq (wOf L)} TI m d) from rfl)) $$ Hit
  ihave Hu := (Entails.of_eq (show (((V d (cV L) (jV L)).loc cc0_scratch0 ↦{fullShare} f0 : sProp 𝕄)) = ((uV).view.loc (V d (cV L) (jV L)) ↦{fullShare} f0) from rfl)) $$ Hu
  ihave Hi := (Entails.of_eq (show (((V d (cV L) (jV L)).loc cc0_scratch1 ↦{fullShare} f1 : sProp 𝕄)) = ((iV).view.loc (V d (cV L) (jV L)) ↦{fullShare} f1) from rfl)) $$ Hi
  ihave Hug := (Entails.of_eq (show (((V d (cV L) (jV L)).loc cc0_scratch2 ↦{fullShare} f2 : sProp 𝕄)) = ((ugV).view.loc (V d (cV L) (jV L)) ↦{fullShare} f2) from rfl)) $$ Hug
  ihave Hig := (Entails.of_eq (show (((V d (cV L) (jV L)).loc cc0_scratch3 ↦{fullShare} f3 : sProp 𝕄)) = ((igV).view.loc (V d (cV L) (jV L)) ↦{fullShare} f3) from rfl)) $$ Hig
  ihave Hur := (Entails.of_eq (show (((V d (cV L) (jV L)).loc cc0_scratch4 ↦{fullShare} f4 : sProp 𝕄)) = ((urV).view.loc (V d (cV L) (jV L)) ↦{fullShare} f4) from rfl)) $$ Hur
  ihave Hir := (Entails.of_eq (show (((V d (cV L) (jV L)).loc cc0_scratch5 ↦{fullShare} f5 : sProp 𝕄)) = ((irV).view.loc (V d (cV L) (jV L)) ↦{fullShare} f5) from rfl)) $$ Hir
  ihave Ho := (Entails.of_eq (show (((V d (cV L) (jV L)).loc cc0_scratch6 ↦{fullShare} f6 : sProp 𝕄)) = ((oV).view.loc (V d (cV L) (jV L)) ↦{fullShare} f6) from rfl)) $$ Ho
  sl_exec
  have eU : View.write (Elt F) (uV).view f0 (tile_body.sl.dma0 m d L) Finset.univ = words L (uW m d) := View.write_whole_univ _ _ _
  have eI : View.write (Elt F) (iV).view f1 (tile_body.sl.dma0_1 m d L) Finset.univ = words L (iW m d) := View.write_whole_univ _ _ _
  ihave Hu := (Entails.of_eq (congrArg (fun f : Buf (Elt F) ((uV).view.loc (V d (cV L) (jV L))) =>
    ((uV).view.loc (V d (cV L) (jV L)) ↦{fullShare} f : sProp 𝕄)) eU)) $$ Hu
  ihave Hi := (Entails.of_eq (congrArg (fun f : Buf (Elt F) ((iV).view.loc (V d (cV L) (jV L))) =>
    ((iV).view.loc (V d (cV L) (jV L)) ↦{fullShare} f : sProp 𝕄)) eI)) $$ Hi
  have huL : ∀ j, (words L (uW m d) j).toNat < 1000000 := fun j => (hpre d _).1
  have hiL : ∀ j, (words L (iW m d) j).toNat < 1000000 := fun j => (hpre d _).2
  sl_for (fun k _ => First (F := F) d L (words L (uW m d)) (words L (iW m d)) (16 * k)) $$ [Hu Hi Hug Hig]
  case region =>
    intro k _
    unfold First
    iintro ⟨Hu, Hi, ⟨%gu, %hgu, Hug⟩, %gi, %hgi, Hig⟩
    ihave Hwp := (t1_trip (F := F) d L _ _ gu gi k hgu hgi) $$ [Hu Hi Hug Hig]
    · isplitl [Hu]; · iexact Hu
      isplitl [Hi]; · iexact Hi
      isplitl [Hug]; · iexact Hug
      iexact Hig
    iexact Hwp
  · unfold First
    isplitl [Hu]; · iexact Hu
    isplitl [Hi]; · iexact Hi
    isplitl [Hug]
    · iexists f2; isplitr
      · ipureintro; exact fun j hj => absurd hj (Nat.not_lt_zero _)
      · iexact Hug
    · iexists f3; isplitr
      · ipureintro; exact fun j hj => absurd hj (Nat.not_lt_zero _)
      · iexact Hig
  iintro %_ HI
  unfold First
  icases HI with ⟨Hu, Hi, ⟨%gu, %hgu, Hug⟩, %gi, %hgi, Hig⟩
  obtain rfl : gu = sh (words L (uW m d)) := shifted_all hgu
  obtain rfl : gi = sh (words L (iW m d)) := shifted_all hgi
  sl_for (fun k _ => Middle (F := F) d L O W (tq (wOf L)) (tq (wOf L)) (TU m d) (TI m d) (words L (uW m d)) (words L (iW m d)) (256 * k))
    $$ [Hu Hi Hug Hig Hut' Hit' Hur Hir Ho HsemU HsemI HO]
  case region =>
    intro k _
    exact t2_trip (F := F) d L O W _ _ _ _ _ _ k huL hiL
  · unfold Middle
    isplitr; · iexact Hmw
    isplitl [Hu]; · iexact Hu
    isplitl [Hi]; · iexact Hi
    isplitl [Hug]; · iexact Hug
    isplitl [Hig]; · iexact Hig
    isplitl [Hut']; · iexact Hut'
    isplitl [Hit']; · iexact Hit'
    isplitl [Hur]; · iexists f4; iexact Hur
    isplitl [Hir]; · iexists f5; iexact Hir
    isplitl [Ho]
    · iexists f6; isplitr
      · ipureintro; exact fun j hj => absurd hj (Nat.not_lt_zero _)
      · iexact Ho
    isplitl [HsemU]; · iexact HsemU
    isplitl [HsemI]; · iexact HsemI
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact .inl hp
  iintro %_ HI
  unfold Middle
  icases HI with ⟨-, Hu, Hi, Hug, Hig, Hut, Hit, ⟨%gu, Hur⟩, ⟨%gi, Hir⟩, ⟨%fo, %hfo, Ho⟩, HsemU, HsemI, %W', %hW', HO⟩
  sl_exec
  sl_step
  isplitl [Huw' Hiw' Hut Hit Hout']
  · isplitl [Huw']; · iapply (Entails.of_eq (pts_uRowK (F := F) d L _)); iexact Huw'
    isplitl [Hiw']; · iapply (Entails.of_eq (pts_iRowK (F := F) d L _)); iexact Hiw'
    isplitl [Hut]; · iexact Hut
    isplitl [Hit]; · iexact Hit
    ihave Hout := (Entails.of_eq (pointsTo_congr (out_eq m d L fo (tile_body.sl.dma0_2 fo) rfl (m (oLoc d)) hfo))) $$ Hout'
    iapply (Entails.of_eq (pts_oRowK (F := F) d L _)); iexact Hout
  isplitl [Hu Hi Hug Hig Hur Hir Ho Hbufs]
  · isplitl [Hu]; · iexists _; iexact Hu
    isplitl [Hi]; · iexists _; iexact Hi
    isplitl [Hug]; · iexists _; iexact Hug
    isplitl [Hig]; · iexists _; iexact Hig
    isplitl [Hur]; · iexists _; iexact Hur
    isplitl [Hir]; · iexists _; iexact Hir
    isplitl [Ho]; · iexists _; iexact Ho
    iexact Hbufs
  isplitl [HsemU HsemI Hsem0 Hsem1 Hsem2 Hsems]
  · isplitl [HsemU]; · iexact HsemU
    isplitl [HsemI]; · iexact HsemI
    isplitl [Hsem0]; · iexact Hsem0
    isplitl [Hsem1]; · iexact Hsem1
    isplitl [Hsem2]; · iexact Hsem2
    iexact Hsems
  iexists _; isplitr
  swap; · iexact HO
  ipureintro; intro p hp
  rcases Finset.mem_insert.mp hp with hp | hp; · exact .inr (hp ▸ rfl)
  exact hW' p hp

end Cert.Proof.Dot

end
-- ==== Proof.Launch.lean ====
/-
  The launch: what @main hands the tiles and takes back, @main itself with its two reshapes, and the program's run — the
  arguments unchanged, the result at its stated value, every semaphore at zero.
-/
module

public import proofs.«01_k».proof.Proof.TileBody
public import Idealize.ShloMosaic.Lib.StableHlo.Run

@[expose] public section

noncomputable section

namespace Cert.Proof.Dot

open Cert.KernelIdeal Cert.KernelIdeal.Gen

open Idealize.ShloMosaic Idealize.ShloMosaic.ValueIdx
open Idealize.ShloMosaic.SparseCore (V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays in 32 pieces, and the 32 tiles as sixteen of either SparseCore -/

omit [FloatOps F] in
/-- The stretches do not overlap, -/
theorem tset_disjoint : ∀ v ∈ (Finset.univ : Finset (Fin 32)), ∀ w ∈ (Finset.univ : Finset (Fin 32)), v ≠ w → Disjoint (tset v) (tset w) :=
  fun _ _ _ _ h => Rect.part_disjoint tdiv h
omit [FloatOps F] in
/-- and cover the array. -/
theorem tset_cover : (Finset.univ : Finset (Fin 32)).biUnion tset = Finset.univ := Rect.biUnion_part tdiv

/-- The five arrays of the call, whole. -/
abbrev callRes (d : Dev nD) (f : S16384.Idx → F .f32) : sProp 𝕄 :=
  iprop((uLoc d ↦{fullShare} m (uLoc d)) ∗ (iLoc d ↦{fullShare} m (iLoc d))
    ∗ (uvLoc d ↦{fullShare} TU m d) ∗ (ivLoc d ↦{fullShare} TI m d) ∗ (oLoc d ↦{fullShare} f))

/-- Held whole they are what the 32 tiles are handed: the index arrays and the result in stretches, the views in shares. -/
theorem callRes_eq (d : Dev nD) (f : S16384.Idx → F .f32) :
    callRes m d f = bigSep Finset.univ fun w : Fin 32 => tileRes m d w f := by
  have hu : (uLoc d ↦{fullShare} m (uLoc d) : sProp 𝕄) = bigSep Finset.univ fun w : Fin 32 => uLoc d ↦[tset w]{fullShare} m (uLoc d) := by
    rw [← pointsTo_biUnion Finset.univ (ℓ := uLoc d) tset tset_disjoint, tset_cover]
  have hi : (iLoc d ↦{fullShare} m (iLoc d) : sProp 𝕄) = bigSep Finset.univ fun w : Fin 32 => iLoc d ↦[tset w]{fullShare} m (iLoc d) := by
    rw [← pointsTo_biUnion Finset.univ (ℓ := iLoc d) tset tset_disjoint, tset_cover]
  have ho : (oLoc d ↦{fullShare} f : sProp 𝕄) = bigSep Finset.univ fun w : Fin 32 => oLoc d ↦[tset w]{fullShare} f := by
    rw [← pointsTo_biUnion Finset.univ (ℓ := oLoc d) tset tset_disjoint, tset_cover]
  have hut : (uvLoc d ↦{fullShare} TU m d : sProp 𝕄) = bigSep Finset.univ fun w : Fin 32 => uvLoc d ↦{tq w} TU m d :=
    ShareLeaves.pointsTo_leaves Finset.univ _ 5 fullShare
  have hit : (ivLoc d ↦{fullShare} TI m d : sProp 𝕄) = bigSep Finset.univ fun w : Fin 32 => ivLoc d ↦{tq w} TI m d :=
    ShareLeaves.pointsTo_leaves Finset.univ _ 5 fullShare
  unfold callRes tileRes
  rw [bigSep_sep', bigSep_sep', bigSep_sep', bigSep_sep', ← hu, ← hi, ← hut, ← hit, ← ho]

/-- The coordinates of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The 32 tiles: each subcore number, on either SparseCore. -/
def tiles : Fin 2 × Fin 16 ≃ Fin 32 where
  toFun p := ⟨2 * p.2.val + p.1.val, by omega⟩
  invFun w := (⟨w.val % 2, by omega⟩, ⟨w.val / 2, by omega⟩)
  left_inv p := by
    refine Prod.ext (Fin.ext ?_) (Fin.ext ?_)
    · show (2 * p.2.val + p.1.val) % 2 = p.1.val; omega
    · show (2 * p.2.val + p.1.val) / 2 = p.2.val; omega
  right_inv w := Fin.ext (by show 2 * (w.val / 2) + w.val % 2 = w.val; omega)

/-- What SparseCore `c`'s tiles are handed. -/
abbrev coreRes (d : Dev nD) (c : Fin 2) (f : S16384.Idx → F .f32) : sProp 𝕄 :=
  bigSep Finset.univ fun i : Fin 16 => tileRes m d (wOf (coordsV c i)) f

/-- The call's arrays are the two SparseCores' parts of them. -/
theorem callRes_cores (d : Dev nD) (f : S16384.Idx → F .f32) :
    callRes m d f = iprop(coreRes m d 0 f ∗ coreRes m d 1 f) := by
  rw [callRes_eq, bigSep_univ_equiv tiles, bigSep_univ_prod, show (Finset.univ : Finset (Fin 2)) = {0, 1} by decide,
    SparseCore.bigSep_insert' (by decide), bigSep_singleton]
  rfl

/-! ## What the call sends and brings back -/

/-- Each SparseCore is sent its tiles' parts, and each tile its own; the result comes back at its stated value. -/
def P : (K (F := F)).Pay (nD := nD) (Val := Elt F) (Name := ℕ) (U := UU) where
  st := fun q d c => match q with | 0 => coreRes m d (Fin.cast nCore_zero c) (m (oLoc d))
  dn := fun q d c => match q with | 0 => coreRes m d (Fin.cast nCore_zero c) (res m d)
  go := fun q d c i => match q with | 0 => tileRes m d (wOf (coordsV (Fin.cast nCore_zero c) (Fin.cast nSub_zero i))) (m (oLoc d))
  td := fun q d c i => match q with | 0 => tileRes m d (wOf (coordsV (Fin.cast nCore_zero c) (Fin.cast nSub_zero i))) (res m d)
  x := fun _ _ => iprop(emp)

/-- All of these may be sent. -/
instance P_storable : (P (F := F) m).IsStorable where
  st q d c := match q with
    | 0 => (inferInstance : BI.Storable (upEmb : UEmb _ 𝕄) (coreRes m d (Fin.cast nCore_zero c) (m (oLoc d))))
  dn q d c := match q with
    | 0 => (inferInstance : BI.Storable (upEmb : UEmb _ 𝕄) (coreRes m d (Fin.cast nCore_zero c) (res m d)))
  go q d c i := match q with
    | 0 => (inferInstance : BI.Storable (upEmb : UEmb _ 𝕄)
      (tileRes m d (wOf (coordsV (Fin.cast nCore_zero c) (Fin.cast nSub_zero i))) (m (oLoc d))))
  td q d c i := match q with
    | 0 => (inferInstance : BI.Storable (upEmb : UEmb _ 𝕄)
      (tileRes m d (wOf (coordsV (Fin.cast nCore_zero c) (Fin.cast nSub_zero i))) (res m d)))

/-- The kernel's entry on a vector subcore is the task at its coordinates. -/
theorem defs₀_vector (c : Fin τ.nSC) (s : Fin τ.nSub) :
    defs₀ (F := F) (.scVector c s) 0 ()
      = SparseCore.onTile hcore0 hsub0 (fun c s => cc0__body (coordsV c s)
          uwV (Memref.isWhole_whole _) iwV (Memref.isWhole_whole _) utV (Memref.isWhole_whole _) itV (Memref.isWhole_whole _)
          outV (Memref.isWhole_whole _) uV (Memref.isWhole_whole _) iV (Memref.isWhole_whole _) ugV (Memref.isWhole_whole _)
          igV (Memref.isWhole_whole _) urV (Memref.isWhole_whole _) irV (Memref.isWhole_whole _) oV (Memref.isWhole_whole _)
          cc0_scratch7 cc0_scratch8 cc0_scoped0 cc0_scoped1 cc0_scoped2) ⟨⟩ c s := rfl

omit [FloatOps F] in
/-- The waits a task leaves, as the launch counts them. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile runs its task, bringing back its stretch of the result. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-- A SparseCore's part is its tiles' parts, out and back. -/
theorem vecSplit : (K (F := F)).VecSplit' (P m) 0 := by
  intro d c
  show coreRes m d (Fin.cast nCore_zero c) (m (oLoc d)) ⊢ |={Set.univ}=> iprop(
      (bigSep Finset.univ fun i : Fin 16 => tileRes m d (wOf (coordsV (Fin.cast nCore_zero c) i)) (m (oLoc d)))
      ∗ ((bigSep Finset.univ fun i : Fin 16 => tileRes m d (wOf (coordsV (Fin.cast nCore_zero c) i)) (res m d))
          -∗ coreRes m d (Fin.cast nCore_zero c) (res m d)))
  iintro H; imodintro
  isplitl [H]; · iexact H
  iintro H; iexact H

/-! ## The launch element of the ghost state -/

/-- The handshakes' rounds at launch, and the counters. -/
def u₀ : UU := (initOf (K (F := F)).hsCells (K (F := F)).hsToks, 1)

omit [FloatOps F] in
/-- Nothing, any number of times, is nothing. -/
theorem bigSep_none {I : Type} (s : Finset I) : (bigSep s fun _ => iprop(emp)) = (iprop(emp) : sProp 𝕄) := bigSep_emp_const s

/-- The launch element holds the handshakes' rounds; no thread is handed anything besides. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_none]
  iempintro

/-! ## @main on the TensorCore -/

omit [FloatOps F] in
/-- The TensorCore's arrays: the four arguments, the two views, the result. -/
theorem unscopedBufs_eq (d : Dev nD) (W : (b : Ref sig .tc) → Buf (Elt F) ((d.tc : Thread nD τ).loc b)) :
    (unscopedBufs d W : sProp 𝕄) = iprop((uLoc d ↦{fullShare} W main_arg0) ∗ (iLoc d ↦{fullShare} W main_arg1)
      ∗ (utLoc d ↦{fullShare} W main_arg2) ∗ (itLoc d ↦{fullShare} W main_arg3)
      ∗ (uvLoc d ↦{fullShare} W main_v0) ∗ (ivLoc d ↦{fullShare} W main_v1) ∗ oLoc d ↦{fullShare} W main_v2) := by
  unfold unscopedBufs
  rw [show (Finset.univ.filter fun b : Ref sig .tc => ¬ b.isScoped) = {main_arg0, main_arg1, main_arg2, main_arg3, main_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The tables and their views, as device references. -/
abbrev ut' : DevRef τ sig := Proc.devRef .tc (main_arg2 : Ref sig .tc)
abbrev it' : DevRef τ sig := Proc.devRef .tc (main_arg3 : Ref sig .tc)
abbrev uv' : DevRef τ sig := Proc.devRef .tc (main_v0 : Ref sig .tc)
abbrev iv' : DevRef τ sig := Proc.devRef .tc (main_v1 : Ref sig .tc)
/-- @main's two reshapes. -/
abbrev opU : HloOp τ sig (Elt F) := StableHlo.reshape main_arg2 main_v0 (rfl : (.f32 : EltTy) = .f32) shapeCasts_S1000000x16_S125000x128
abbrev opI : HloOp τ sig (Elt F) := StableHlo.reshape main_arg3 main_v1 (rfl : (.f32 : EltTy) = .f32) shapeCasts_S1000000x16_S125000x128

omit [FloatOps F] in
/-- Each touches its table and its view alone. -/
theorem bufs_u : (opU (F := F)).bufs ⊆ {ut', uv'} := show ({ut'} ∪ {uv'} : Finset (DevRef τ sig)) ⊆ {ut', uv'} by decide
omit [FloatOps F] in
/-- The same of the second reshape. -/
theorem bufs_i : (opI (F := F)).bufs ⊆ {it', iv'} := show ({it'} ∪ {iv'} : Finset (DevRef τ sig)) ⊆ {it', iv'} by decide

/-- The launch memory, as the arrays' values on device `d`. -/
def V0 (d : Dev nD) : Valuation τ sig (Elt F) := fun b => m (d, b)

omit [FloatOps F] in
/-- A table and its view, held. -/
theorem held_u (d : Dev nD) (W : Valuation τ sig (Elt F)) :
    (held (SparseCore.T d) {ut', uv'} W : sProp 𝕄) = iprop((utLoc d ↦{fullShare} W ut') ∗ uvLoc d ↦{fullShare} W uv') := by
  unfold held
  rw [SparseCore.bigSep_insert' (by decide), bigSep_singleton]
omit [FloatOps F] in
/-- The same of the item table. -/
theorem held_i (d : Dev nD) (W : Valuation τ sig (Elt F)) :
    (held (SparseCore.T d) {it', iv'} W : sProp 𝕄) = iprop((itLoc d ↦{fullShare} W it') ∗ ivLoc d ↦{fullShare} W iv') := by
  unfold held
  rw [SparseCore.bigSep_insert' (by decide), bigSep_singleton]

/-- After the reshapes: the table unchanged, its view filled. -/
theorem after_u (d : Dev nD) :
    (held (SparseCore.T d) {ut', uv'} ((opU (F := F)).result (V0 m d)) : sProp 𝕄)
      = iprop((utLoc d ↦{fullShare} m (utLoc d)) ∗ uvLoc d ↦{fullShare} TU m d) := by
  rw [held_u, StableHlo.reshape_result_ne (r := main_arg2) _ _ _ _ _ _ _ (show main_arg2 ≠ main_v0 by decide), StableHlo.reshape_result]
  rfl
/-- The same of the item table. -/
theorem after_i (d : Dev nD) :
    (held (SparseCore.T d) {it', iv'} ((opI (F := F)).result (V0 m d)) : sProp 𝕄)
      = iprop((itLoc d ↦{fullShare} m (itLoc d)) ∗ ivLoc d ↦{fullShare} TI m d) := by
  rw [held_i, StableHlo.reshape_result_ne (r := main_arg3) _ _ _ _ _ _ _ (show main_arg3 ≠ main_v1 by decide), StableHlo.reshape_result]
  rfl

/-- What the two SparseCores are sent, and bring back: the call's arrays whole. -/
theorem st0_eq (d : Dev nD) : (bigSep Finset.univ fun c : Fin ((K (F := F)).nCore 0) => (P m).st 0 d c) = callRes m d (m (oLoc d)) := by
  rw [callRes_cores]
  show (bigSep (Finset.univ : Finset (Fin 2)) fun c => coreRes m d c (m (oLoc d))) = _
  rw [show (Finset.univ : Finset (Fin 2)) = {0, 1} by decide, SparseCore.bigSep_insert' (by decide), bigSep_singleton]
/-- And what they bring back: the same arrays, the result at its stated value. -/
theorem dn0_eq (d : Dev nD) : (bigSep Finset.univ fun c : Fin ((K (F := F)).nCore 0) => (P m).dn 0 d c) = callRes m d (res m d) := by
  rw [callRes_cores]
  show (bigSep (Finset.univ : Finset (Fin 2)) fun c => coreRes m d c (res m d)) = _
  rw [show (Finset.univ : Finset (Fin 2)) = {0, 1} by decide, SparseCore.bigSep_insert' (by decide), bigSep_singleton]

/-- What @main ends with: its arguments as at launch, the result at its stated value. -/
abbrev FIN (d : Dev nD) : sProp 𝕄 :=
  iprop((uLoc d ↦{fullShare} m (uLoc d)) ∗ (iLoc d ↦{fullShare} m (iLoc d)) ∗ (utLoc d ↦{fullShare} m (utLoc d))
    ∗ (itLoc d ↦{fullShare} m (itLoc d)) ∗ (oLoc d ↦{fullShare} res m d))

/-- @main on a device's TensorCore: the two views filled, the call, the arguments kept and the result at its value. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hu, Hi, Hut, Hit, Huv, Hiv, Ho⟩, Hts, -⟩, -⟩
  iapply (wp_hlo_within 𝒱 (SparseCore.T d) none Set.univ (op := opU) (S := {ut', uv'}) (bufs_u (F := F)) (V := V0 m d)) $$ [Hb Hut Huv]
  · isplitl [Hb]; · iexact Hb
    rw [held_u]
    isplitl [Hut]; · iexact Hut
    iexact Huv
  iintro ⟨Hb, Hh⟩
  ihave Hh' := (Entails.of_eq (after_u m d)) $$ Hh
  icases Hh' with ⟨Hut, Huv⟩
  rw [wp_ret]; imodintro
  iapply (wp_hlo_within 𝒱 (SparseCore.T d) none Set.univ (op := opI) (S := {it', iv'}) (bufs_i (F := F)) (V := V0 m d)) $$ [Hb Hit Hiv]
  · isplitl [Hb]; · iexact Hb
    rw [held_i]
    isplitl [Hit]; · iexact Hit
    iexact Hiv
  iintro ⟨Hb, Hh⟩
  ihave Hh' := (Entails.of_eq (after_i m d)) $$ Hh
  icases Hh' with ⟨Hit, Hiv⟩
  rw [wp_ret]; imodintro
  iapply ((K (F := F)).wp_run (D (F := F)) 𝒱 (EH := EH) (P := P m) κ d 0) $$ [Hst Hu Hi Huv Hiv Ho Hb Hts Hut Hit]
  isplitr; · iexact Hctx
  isplitl [Hst]; · iexact Hst
  isplitl [Hu Hi Huv Hiv Ho]
  · rw [st0_eq]
    isplitl [Hu]; · iexact Hu
    isplitl [Hi]; · iexact Hi
    isplitl [Huv]; · iexact Huv
    isplitl [Hiv]; · iexact Hiv
    iexact Ho
  iintro ⟨Hst, Hdn⟩
  ihave Hdn' := (Entails.of_eq (dn0_eq m d)) $$ Hdn
  icases Hdn' with ⟨Hu, Hi, -, -, Ho⟩
  imodintro
  isplitl [Hst]; · iexact Hst
  isplitr [Hb Hts]
  · isplitl [Hu]; · iexact Hu
    isplitl [Hi]; · iexact Hi
    isplitl [Hut]; · iexact Hut
    isplitl [Hit]; · iexact Hit
    iexact Ho
  isplitl [Hb] <;> iassumption

/-- The same of the memory. -/
def fq (d : Dev nD) (s' : Phys nD τ sig (Elt F)) : Prop :=
  (s'.mem.mem (uLoc d) = m (uLoc d) ∧ s'.mem.mem (iLoc d) = m (iLoc d) ∧ s'.mem.mem (utLoc d) = m (utLoc d)
    ∧ s'.mem.mem (itLoc d) = m (itLoc d)) ∧ s'.mem.mem (oLoc d) = res m d

omit [FloatOps F] in
/-- An array held whole is at its value in the memory, and still held. -/
theorem agree (ℓ : Loc nD τ sig) (f : Buf (Elt F) ℓ) (s' : Phys nD τ sig (Elt F)) :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  · iexact HSI

/-- What @main ends with says so of the memory. -/
theorem hfin (d : Dev nD) (s' : Phys nD τ sig (Elt F)) : iprop(FIN m d ∗ SI s') ⊢ (⌜fq m d s'⌝ : sProp 𝕄) := by
  iintro ⟨⟨Hu, Hi, Hut, Hit, Ho⟩, HSI⟩
  ihave H := (agree (uLoc d) _ s') $$ [HSI Hu]; · isplitl [HSI] <;> iassumption
  icases H with ⟨%h0, HSI⟩
  ihave H := (agree (iLoc d) _ s') $$ [HSI Hi]; · isplitl [HSI] <;> iassumption
  icases H with ⟨%h1, HSI⟩
  ihave H := (agree (utLoc d) _ s') $$ [HSI Hut]; · isplitl [HSI] <;> iassumption
  icases H with ⟨%h2, HSI⟩
  ihave H := (agree (itLoc d) _ s') $$ [HSI Hit]; · isplitl [HSI] <;> iassumption
  icases H with ⟨%h3, HSI⟩
  ihave H := (agree (oLoc d) _ s') $$ [HSI Ho]; · isplitl [HSI] <;> iassumption
  icases H with ⟨%h4, HSI⟩
  ipureintro; exact ⟨⟨h0, h1, h2, h3⟩, h4⟩

/-! ## The program's run -/

/-- What a run ends with: on every device the arguments as at launch and the result at its value; every semaphore at zero. -/
def QC : PUnit × MemSt nD τ sig (Elt F) → Prop := fun r =>
  (∀ c : Dev nD, (r.2.mem (uLoc c) = m (uLoc c) ∧ r.2.mem (iLoc c) = m (iLoc c) ∧ r.2.mem (utLoc c) = m (utLoc c)
    ∧ r.2.mem (itLoc c) = m (itLoc c)) ∧ r.2.mem (oLoc c) = res m c) ∧ r.2.sem = fun _ => 0

/-- The program runs to its end, faultlessly, with the arguments unchanged, the result the inner products, and every
semaphore at zero, whenever the index words are below a million. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Dot

end
-- ==== Proof.Ref.lean ====
/-
  The reference's value at the ideal instance: at index words that name rows, the rows taken are the tables' own, and the sum
  over the columns of the products is the kernel's inner product read through the tables' views.
-/
module

public import proofs.«01_k».proof.Proof.Value
public import proofs.«01_k».proof.Proof.Gen.ReferenceIdeal.Run
public import Idealize.ShloMosaic.Lib.Routing.Ops
public import Idealize.ShloMosaic.Lib.ReduceAll
public import Idealize.ShloMosaic.Lib.IdealHost
public import Idealize.ShloMosaic.Lib.Pointwise.Reduce

@[expose] public section

noncomputable section

namespace Cert.Proof.Ref

open Cert.ReferenceIdeal Cert.ReferenceIdeal.Gen
open Idealize.ShloMosaic hiding ix1 ix2 eq_ix1
open Idealize.ShloMosaic.ValueIdx
open Cert.Proof.Value (cell sumTo prodAt dotAt)

variable {F : FTy → Type} [FloatOps F]

/-! ## The rows taken -/

/-- The reference's index words: a negative one counted from the table's end. -/
abbrev wrapped (w : IVec S16384 32) : IVec S16384x1 32 :=
  broadcastInDim S16384x1 ![0] bcast_S16384_S16384x1_0
    (select (cmpi .slt w (broadcastInDim S16384 ![] bcast_S_S16384 (constantI S_ 32 0#32)))
      (addi w (broadcastInDim S16384 ![] bcast_S_S16384 (constantI S_ 32 1000000#32))) w)

/-- Where such a word names a row, one bit per word. -/
abbrev named (w : IVec S16384 32) : IVec S16384 1 :=
  Host.reduce IntOp.andi
    (andi (cmpi .sge (wrapped w) (broadcastInDim S16384x1 ![] bcast_S_S16384x1 (constantI S_ 32 0#32)))
      (cmpi .sle (wrapped w) (broadcastInDim S16384x1 ![0, 1] bcast_S1x1_S16384x1_0_1 (broadcastInDim S1x1 ![1] bcast_S1_S1x1_1 (constantI S1 32 999999#32)))))
    (constantI S_ 1 1#1) reducesTo_S16384x1_S16384_d1 h_S_

/-- The rows of `T` that the words name, as the reference takes them: not a number where a word names none. -/
abbrev taken (T : S1000000x16.Idx → F .f32) (w : IVec S16384 32) : FVec F S16384x16 .f32 :=
  select (broadcastInDim S16384x16 ![0] bcast_S16384_S16384x16_0 (named w))
    (Host.gather gather_S1000000x16_S16384x1_S16384x16_1_0_n_n_0_1_116 T (wrapped w))
    (broadcastInDim S16384x16 ![] bcast_S_S16384x16 (constant S_ .f32 0x7FC00000#32))

/-- The reference's result. -/
abbrev result (T T' : S1000000x16.Idx → F .f32) (w v : IVec S16384 32) : FVec F S16384 .f32 :=
  shapeCast S16384 (broadcastInDim S16384x1 ![0] bcast_S16384_S16384x1_0
    (Host.reduceAdd (mulf (taken T w) (taken T' v)) (constant S_ .f32 0x00000000#32) reducesTo_S16384x16_S16384_d1 h_S_))
    shapeCasts_S16384x1_S16384

/-- A word below a million is no negative number. -/
theorem not_neg (w : BitVec 32) (h : w.toNat < 1000000) : IntOp.cmpi .slt w 0#32 = 0#1 := by
  have : BitVec.slt w 0#32 = false := by
    rw [BitVec.slt_eq_decide, decide_eq_false_iff_not, BitVec.toInt_eq_toNat_cond]
    simp; omega
  simp only [IntOp.cmpi, this]; rfl

/-- A word below a million passes the reference's test. -/
theorem in_table (w : BitVec 32) (h : w.toNat < 1000000) :
    IntOp.andi (IntOp.cmpi .sge w 0#32) (IntOp.cmpi .sle w 999999#32) = 1#1 := by
  have h1 : BitVec.sle 0#32 w = true := by
    rw [BitVec.sle_eq_decide, decide_eq_true_eq, BitVec.toInt_eq_toNat_cond, BitVec.toInt_eq_toNat_cond]
    simp; omega
  have h2 : BitVec.sle w 999999#32 = true := by
    rw [BitVec.sle_eq_decide, decide_eq_true_eq, BitVec.toInt_eq_toNat_cond, BitVec.toInt_eq_toNat_cond]
    simp; omega
  simp only [IntOp.cmpi, h1, h2]; rfl

/-- A word that names a row stands as it is. -/
theorem wrapped_apply (w : IVec S16384 32) (hw : ∀ b, (w b).toNat < 1000000) (i : S16384x1.Idx) (b : S16384.Idx)
    (hb : (b 0).val = (i 0).val) : wrapped w i = w b := by
  unfold wrapped
  rw [broadcastInDim_apply _ _ _ i b (fun a => by
    have : a = 0 := Subsingleton.elim _ _
    subst this; exact hb)]
  show Scalar.select (IntOp.cmpi .slt (w b) 0#32) _ _ = _
  rw [not_neg _ (hw b)]; rfl

/-- Every word that names a row is found to. -/
theorem named_apply (w : IVec S16384 32) (hw : ∀ b, (w b).toNat < 1000000) (b : S16384.Idx) : named w b = 1#1 := by
  unfold named
  refine Host.reduce_andi_one _ _ _ _ _ rfl fun i => ?_
  show IntOp.andi (IntOp.cmpi .sge (wrapped w i) 0#32) (IntOp.cmpi .sle (wrapped w i) 999999#32) = 1#1
  rw [wrapped_apply w hw i (ix1 ⟨(i 0).val, (i 0).isLt⟩) rfl]
  exact in_table _ (hw _)

/-- The row taken for word `b` is the table's row of that number. -/
theorem taken_apply (T : S1000000x16.Idx → F .f32) (w : IVec S16384 32) (hw : ∀ b, (w b).toNat < 1000000)
    (b : Fin 16384) (k : Fin 16) : taken T w (ix2 b k) = T (ix2 ⟨(w (ix1 b)).toNat, hw _⟩ k) := by
  unfold taken
  show Scalar.select (broadcastInDim S16384x16 ![0] bcast_S16384_S16384x16_0 (named w) (ix2 b k)) _ _ = _
  rw [broadcastInDim_apply _ _ _ (ix2 b k) (ix1 b) (fun a => by
    have : a = 0 := Subsingleton.elim _ _
    subst this; rfl), named_apply w hw]
  show Host.gather _ T (wrapped w) (ix2 b k) = _
  refine Routing.gather_row _ rfl rfl rfl rfl rfl T (wrapped w) b k ⟨(w (ix1 b)).toNat, hw _⟩ ?_ (by decide)
  rw [wrapped_apply w hw _ (ix1 b) rfl]
  exact BitVec.eq_of_toNat_eq (by rw [BitVec.toNat_ofNat]; exact (Nat.mod_eq_of_lt (w (ix1 b)).isLt).symm)

/-! ## The views -/

/-- A table's view at the cell the kernel reads for word `w` and column `k` is the table at row `w` and column `k`. -/
theorem view_cell (T : S1000000x16.Idx → F .f32) (h : S1000000x16.ShapeCasts Cert.KernelIdeal.S125000x128)
    (w : BitVec 32) (hw : w.toNat < 1000000) (k : Fin 16) :
    shapeCast Cert.KernelIdeal.S125000x128 T h (cell w k.val) = T (ix2 ⟨w.toNat, hw⟩ k) := by
  unfold cell
  refine shapeCast_apply _ _ _ _ ?_
  rw [Shape.rowMajor_val_two, Shape.rowMajor_val_two]
  show w.toNat * 16 + k.val = (w >>> 3).toNat % 125000 * 128 + (w.toNat % 8 * 16 + k.val) % 128
  have h3 : (w >>> 3).toNat = w.toNat / 8 := by rw [BitVec.toNat_ushiftRight, Nat.shiftRight_eq_div_pow]
  rw [h3]
  have := k.isLt
  omega

/-! ## The sum -/

/-- At the ideal instance the sum from the left is the sum. -/
theorem sumTo_ideal (p : Nat → Ideal .f32) (n : Nat) : sumTo p n = (∑ k : Fin n, (p k.val : EReal) : EReal) := by
  induction n with
  | zero =>
    rw [Fin.sum_univ_zero]
    exact Ideal.ofBits_zero_f32
  | succ n ih =>
    rw [Fin.sum_univ_castSucc]
    show (sumTo p n : EReal) + p n = _
    rw [ih]; rfl

/-- The reference's result at index words that name rows: the inner products, as the kernel states them. -/
theorem result_eq (T T' : S1000000x16.Idx → Ideal .f32) (w v : IVec S16384 32)
    (h : S1000000x16.ShapeCasts Cert.KernelIdeal.S125000x128)
    (hw : ∀ b, (w b).toNat < 1000000) (hv : ∀ b, (v b).toNat < 1000000) :
    result T T' w v = fun b => dotAt (shapeCast Cert.KernelIdeal.S125000x128 T h) (shapeCast Cert.KernelIdeal.S125000x128 T' h) (w b) (v b) := by
  funext b'
  obtain ⟨b, rfl⟩ : ∃ b : Fin 16384, b' = ix1 b := ⟨⟨(b' 0).val, (b' 0).isLt⟩, eq_ix1 b'⟩
  unfold result
  refine (shapeCast_apply _ shapeCasts_S16384x1_S16384 (ix1 b) (ix2 b (0 : Fin 1)) (by
      rw [Shape.rowMajor_val_two, Shape.rowMajor_val_one (d := ![16384]) (ix1 b)]
      show b.val * 1 + 0 = b.val
      omega)).trans ?_
  rw [broadcastInDim_apply _ _ _ _ (ix1 b) (fun a => by
      have : a = 0 := Subsingleton.elim _ _
      subst this; rfl),
    hostReduceAdd_apply, Ideal.hostReduceAdd_r2_a1]
  show Ideal.ofBits .f32 0x00000000#32 + _ = dotAt _ _ _ _
  rw [Ideal.ofBits_zero_f32, zero_add]
  unfold dotAt
  rw [sumTo_ideal]
  refine Finset.sum_congr rfl fun k _ => ?_
  show FloatOps.mulf (taken T w (ix2 _ k)) (taken T' v (ix2 _ k)) = prodAt _ _ _ _ k.val
  rw [taken_apply T w hw, taken_apply T' v hv]
  unfold prodAt
  rw [view_cell T h _ (hw (ix1 b)), view_cell T' h _ (hv (ix1 b))]

end Cert.Proof.Ref

end
-- ==== Proof.Claims.lean ====
/-
  The claims: the precondition as bounds on the index words, the frames of the kernel and of the reference, and the equality
  of the kernel's result with the reference's at the ideal instance.
-/
module

public import proofs.«01_k».proof.Proof.Launch
public import proofs.«01_k».proof.Proof.Ref
public import proofs.«01_k».proof.Proof.Gen.Kernel
public import proofs.«01_k».proof.Proof.Gen.Pre_in_tables

@[expose] public section

noncomputable section

namespace Cert.Proof

open Idealize.ShloMosaic Idealize.SL.Sem
open Cert.KernelIdeal Cert.KernelIdeal.Gen

/-- The printed test of a pair of index words — each from zero on and below a million — passing says that both words, read as
natural numbers, are below a million. -/
theorem words_of_test (w v : BitVec 32)
    (e : IntOp.andi (IntOp.andi (IntOp.andi (IntOp.cmpi .sge w 0#32) (IntOp.cmpi .slt w 1000000#32)) (IntOp.cmpi .sge v 0#32))
      (IntOp.cmpi .slt v 1000000#32) = 1#1) : w.toNat < 1000000 ∧ v.toNat < 1000000 := by
  have both (p q : BitVec 1) (h : IntOp.andi p q = 1#1) : p = 1#1 ∧ q = 1#1 := by
    revert h; revert p q; decide
  have bit (p : Bool) (h : BitVec.ofBool p = 1#1) : p = true := by revert h; revert p; decide
  have half (w : BitVec 32) (h0 : IntOp.cmpi .sge w 0#32 = 1#1) (h1 : IntOp.cmpi .slt w 1000000#32 = 1#1) : w.toNat < 1000000 := by
    have a := bit _ h0
    have b := bit _ h1
    simp only [BitVec.sle_eq_decide, BitVec.slt_eq_decide, decide_eq_true_eq, BitVec.toInt_eq_toNat_cond, BitVec.toNat_ofNat,
      Nat.reducePow, Nat.reduceMod] at a b
    omega
  obtain ⟨e, h3⟩ := both _ _ e
  obtain ⟨e, h2⟩ := both _ _ e
  obtain ⟨h0, h1⟩ := both _ _ e
  exact ⟨half w h0 h1, half v h2 h3⟩

/-- The precondition, over any floats: every index word is below a million. -/
theorem ok_of_pre {F : FTy → Type} [FloatOps F] (m : (ℓ : Loc nD τ sig) → Buf (Elt F) ℓ)
    (h : ∀ c : Dev nD, Cert.Pre_in_tables.fn (F := F) (m ((c.tc : Thread nD τ).loc main_arg0)) (m ((c.tc : Thread nD τ).loc main_arg1))
      (m ((c.tc : Thread nD τ).loc main_arg2)) (m ((c.tc : Thread nD τ).loc main_arg3)) = fun _ => 1#1) : Dot.PreOK m := by
  intro d b
  have e := congrFun (h d) b
  simp only [Cert.Pre_in_tables.fn, andi, cmpi, broadcastInDim, constantI] at e
  exact words_of_test _ _ e

/-- The kernel at the machine's floats: it runs to its end, faultlessly, its arguments unchanged, every semaphore at zero. -/
theorem frame_kernel : Cert.quiescent_Kernel := fun m ρ hpre =>
  (θ_run Cert.KernelIdeal.defs _ _).mono (fun _ h => ⟨fun c => (h.1 c).1, h.2⟩) (Dot.run_main (F := Bits) m ρ (ok_of_pre m hpre))

/-- The same at the ideal instance. -/
theorem frame_kernelIdeal : Cert.quiescent_KernelIdeal := fun m ρ hpre =>
  (θ_run Cert.KernelIdeal.defs _ _).mono (fun _ h => ⟨fun c => (h.1 c).1, h.2⟩) (Dot.run_main (F := Ideal) m ρ (ok_of_pre m hpre))

/-- The reference runs to its end, its arguments unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition. -/
theorem frame_reference_in_tables : Cert.quiescent_ReferenceIdeal_pre_in_tables := fun m ρ _ => frame_reference m ρ trivial

/-- From memories that agree on the arguments, whose index words name rows, the kernel's result is the reference's. -/
theorem algebraic : Cert.algebraic_KernelIdeal_ReferenceIdeal := by
  intro m ρ m' ρ' hpre hag
  have ok := ok_of_pre m hpre
  refine ⟨fun c => Dot.res m c, ?_, ?_⟩
  · exact (θ_run Cert.KernelIdeal.defs _ _).mono (fun _ h c => ⟨(h.1 c).2, (h.1 c).1⟩) (Dot.run_main (F := Ideal) m ρ ok)
  · refine (θ_run Cert.ReferenceIdeal.defs _ _).mono (fun _ h c => ⟨(h c).1.trans ?_, (h c).2⟩)
      (Cert.ReferenceIdeal.Value.run (F := Ideal) m' ρ')
    obtain ⟨h0, h1, h2, h3⟩ := hag c
    rw [h0, h1, h2, h3]
    exact Ref.result_eq _ _ _ _ shapeCasts_S1000000x16_S125000x128 (fun b => (ok c b).1) (fun b => (ok c b).2)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_tables
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts, Cert.Pre_in_tables.Gen.facts,
  frame_kernel, frame_kernelIdeal, frame_reference, frame_reference_in_tables, trivial, algebraic⟩

end Cert.Proof

end
